-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x4096 : Shape := ⟨3, ![4, 8192, 4096]⟩
abbrev S64x4096 : Shape := ⟨2, ![64, 4096]⟩
abbrev S64 : Shape := ⟨1, ![64]⟩
abbrev S32768x4096 : Shape := ⟨2, ![32768, 4096]⟩
abbrev S1x64 : Shape := ⟨2, ![1, 64]⟩
abbrev S32768x64 : Shape := ⟨2, ![32768, 64]⟩
abbrev S3x1024x4096 : Shape := ⟨3, ![3, 1024, 4096]⟩
abbrev S3 : Shape := ⟨1, ![3]⟩
abbrev S2x1024x64 : Shape := ⟨3, ![2, 1024, 64]⟩
abbrev S2 : Shape := ⟨1, ![2]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S1024x64 : Shape := ⟨2, ![1024, 64]⟩
abbrev S1x1024x64 : Shape := ⟨3, ![1, 1024, 64]⟩

abbrev nBuf : Space → Nat
  | .hbm => 6
  | .vmem => 4
  | .smem => 0
  | _ => 0

abbrev bufTy : (tb : Table) → Fin (tcTables nBuf tb) → BufTy
  | .hbm, ⟨0, _⟩ => ⟨S4x8192x4096, .f32⟩
  | .hbm, ⟨1, _⟩ => ⟨S64x4096, .f32⟩
  | .hbm, ⟨2, _⟩ => ⟨S64, .f32⟩
  | .hbm, ⟨3, _⟩ => ⟨S32768x4096, .f32⟩
  | .hbm, ⟨4, _⟩ => ⟨S1x64, .f32⟩
  | .hbm, ⟨5, _⟩ => ⟨S32768x64, .f32⟩
  | .local _ .vmem, ⟨0, _⟩ => ⟨S64x4096, .f32⟩
  | .local _ .vmem, ⟨1, _⟩ => ⟨S1x64, .f32⟩
  | .local _ .vmem, ⟨2, _⟩ => ⟨S3x1024x4096, .f32⟩
  | .local _ .vmem, ⟨3, _⟩ => ⟨S2x1024x64, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c3_i32_r0 : BitVec 32 := 3#32
  let v21_r0 : BitVec 32 := Scalar.remui c0_i32_19_r0 c3_i32_r0
  ![v21_r0.toNat]
def k0_off2 : Fin 3 → Nat :=
  let c0_i32_19_r0 : BitVec 32 := 0#32
  let c3_i32_r0 : BitVec 32 := 3#32
  let v21_r0 : BitVec 32 := Scalar.remui c0_i32_19_r0 c3_i32_r0
  let c0_i32_20_r0 : BitVec 32 := 0#32
  let c0_i32_21_r0 : BitVec 32 := 0#32
  ![v21_r0.toNat, 0, 0]
def k0_off3 : Fin 2 → Nat :=
  let c1024_i32_r0 : BitVec 32 := 1024#32
  let c0_i32_17_r0 : BitVec 32 := 0#32
  let c0_i32_18_r0 : BitVec 32 := 0#32
  let v20_r0 : BitVec 32 := Scalar.addi c0_i32_17_r0 c0_i32_18_r0
  let v22_r0 : BitVec 32 := Scalar.muli c1024_i32_r0 v20_r0
  let c0_i32_22_r0 : BitVec 32 := 0#32
  ![v22_r0.toNat, 0]
def k0_off4 (arg6_r0 : BitVec 32) : Fin 1 → Nat :=
  let c3_i32_78_r0 : BitVec 32 := 3#32
  let v81_r0 : BitVec 32 := Scalar.remui arg6_r0 c3_i32_78_r0
  ![v81_r0.toNat]
def k0_cond1 (arg4_r0 : BitVec 32) (arg5_r0 : BitVec 32) : BitVec 1 :=
  let c0_i32_71_r0 : BitVec 32 := 0#32
  let v71_r0 : BitVec 32 := Scalar.addi arg4_r0 c0_i32_71_r0
  let c0_i32_72_r0 : BitVec 32 := 0#32
  let v72_r0 : BitVec 32 := Scalar.addi arg5_r0 c0_i32_72_r0
  let v73_r0 : BitVec 1 := Scalar.cmpi .ne v71_r0 v72_r0
  let v74_r0 : BitVec 32 := Scalar.extui v73_r0
  let c0_i32_73_r0 : BitVec 32 := 0#32
  let v75_r0 : BitVec 1 := Scalar.cmpi .ne v74_r0 c0_i32_73_r0
  v75_r0

def k0_off5 (arg6_r0 : BitVec 32) : Fin 3 → Nat :=
  let c3_i32_78_r0 : BitVec 32 := 3#32
  let v81_r0 : BitVec 32 := Scalar.remui arg6_r0 c3_i32_78_r0
  let c0_i32_80_r0 : BitVec 32 := 0#32
  let c0_i32_81_r0 : BitVec 32 := 0#32
  ![v81_r0.toNat, 0, 0]

def k0_chk1 (arg4_r0 : BitVec 32) (arg5_r0 : BitVec 32) (arg6_r0 : BitVec 32) : Prop :=
  (∀ (k0_h1 : k0_cond1 arg4_r0 arg5_r0 = 1#1), ∀ a, (k0_off4 arg6_r0) a + S1.size a ≤ S3.size a) ∧
  (∀ (k0_h1 : k0_cond1 arg4_r0 arg5_r0 = 1#1), ∀ a, (k0_off5 arg6_r0) a + S1x1024x4096.size a ≤ S3x1024x4096.size a)
theorem k0_off4_inb : ∀ (arg4_r0 : BitVec 32) (arg5_r0 : BitVec 32) (arg6_r0 : BitVec 32) (k0_hw1 : k0_chk1 arg4_r0 arg5_r0 arg6_r0), ∀ (k0_h1 : k0_cond1 arg4_r0 arg5_r0 = 1#1), ∀ a, (k0_off4 arg6_r0) a + S1.size a ≤ S3.size a := fun arg4_r0 arg5_r0 arg6_r0 k0_hw1 k0_h1 => k0_hw1.1 k0_h1
theorem k0_off5_inb : ∀ (arg4_r0 : BitVec 32) (arg5_r0 : BitVec 32) (arg6_r0 : BitVec 32) (k0_hw1 : k0_chk1 arg4_r0 arg5_r0 arg6_r0), ∀ (k0_h1 : k0_cond1 arg4_r0 arg5_r0 = 1#1), ∀ a, (k0_off5 arg6_r0) a + S1x1024x4096.size a ≤ S3x1024x4096.size a := fun arg4_r0 arg5_r0 arg6_r0 k0_hw1 k0_h1 => k0_hw1.2 k0_h1

def k0_off6 (arg5_r0 : BitVec 32) : Fin 2 → Nat :=
  let c1024_i32_79_r0 : BitVec 32 := 1024#32
  let c0_i32_72_r0 : BitVec 32 := 0#32
  let v72_r0 : BitVec 32 := Scalar.addi arg5_r0 c0_i32_72_r0
  let v82_r0 : BitVec 32 := Scalar.muli c1024_i32_79_r0 v72_r0
  let c0_i32_82_r0 : BitVec 32 := 0#32
  ![v82_r0.toNat, 0]

def k0_chk2 (arg4_r0 : BitVec 32) (arg5_r0 : BitVec 32) : Prop :=
  (∀ (k0_h1 : k0_cond1 arg4_r0 arg5_r0 = 1#1), ∀ a, (k0_off6 arg5_r0) a + S1024x4096.size a ≤ S32768x4096.size a)
theorem k0_off6_inb : ∀ (arg4_r0 : BitVec 32) (arg5_r0 : BitVec 32) (k0_hw2 : k0_chk2 arg4_r0 arg5_r0), ∀ (k0_h1 : k0_cond1 arg4_r0 arg5_r0 = 1#1), ∀ a, (k0_off6 arg5_r0) a + S1024x4096.size a ≤ S32768x4096.size a := fun arg4_r0 arg5_r0 k0_hw2 k0_h1 => k0_hw2 k0_h1

@[reducible] def k0_t1_loop : Scf.Loop 32 :=
  let c0_i32_38_r0 : BitVec 32 := 0#32
  let c32_i32_39_r0 : BitVec 32 := 32#32
  let v37_r0 : BitVec 32 := Scalar.addi c0_i32_38_r0 c32_i32_39_r0
  let c1_i32_40_r0 : BitVec 32 := 1#32
  ⟨c0_i32_38_r0, v37_r0, c1_i32_40_r0⟩
def k0_off7 (arg13_r0 : BitVec 32) : Fin 1 → Nat :=
  let c3_i32_139_r0 : BitVec 32 := 3#32
  let v178_r0 : BitVec 32 := Scalar.remui arg13_r0 c3_i32_139_r0
  ![v178_r0.toNat]
def k0_cond2 (arg11_r0 : BitVec 32) (arg12_r0 : BitVec 32) : BitVec 1 :=
  let c0_i32_132_r0 : BitVec 32 := 0#32
  let v168_r0 : BitVec 32 := Scalar.addi arg11_r0 c0_i32_132_r0
  let c0_i32_133_r0 : BitVec 32 := 0#32
  let v169_r0 : BitVec 32 := Scalar.addi arg12_r0 c0_i32_133_r0
  let v170_r0 : BitVec 1 := Scalar.cmpi .ne v168_r0 v169_r0
  let v171_r0 : BitVec 32 := Scalar.extui v170_r0
  let c0_i32_134_r0 : BitVec 32 := 0#32
  let v172_r0 : BitVec 1 := Scalar.cmpi .ne v171_r0 c0_i32_134_r0
  v172_r0

def k0_off8 (arg13_r0 : BitVec 32) : Fin 3 → Nat :=
  let c3_i32_139_r0 : BitVec 32 := 3#32
  let v178_r0 : BitVec 32 := Scalar.remui arg13_r0 c3_i32_139_r0
  let c0_i32_141_r0 : BitVec 32 := 0#32
  let c0_i32_142_r0 : BitVec 32 := 0#32
  ![v178_r0.toNat, 0, 0]

def k0_chk3 (arg11_r0 : BitVec 32) (arg12_r0 : BitVec 32) (arg13_r0 : BitVec 32) : Prop :=
  (∀ (k0_h2 : k0_cond2 arg11_r0 arg12_r0 = 1#1), ∀ a, (k0_off7 arg13_r0) a + S1.size a ≤ S3.size a) ∧
  (∀ (k0_h2 : k0_cond2 arg11_r0 arg12_r0 = 1#1), ∀ a, (k0_off8 arg13_r0) a + S1x1024x4096.size a ≤ S3x1024x4096.size a)
theorem k0_off7_inb : ∀ (arg11_r0 : BitVec 32) (arg12_r0 : BitVec 32) (arg13_r0 : BitVec 32) (k0_hw3 : k0_chk3 arg11_r0 arg12_r0 arg13_r0), ∀ (k0_h2 : k0_cond2 arg11_r0 arg12_r0 = 1#1), ∀ a, (k0_off7 arg13_r0) a + S1.size a ≤ S3.size a := fun arg11_r0 arg12_r0 arg13_r0 k0_hw3 k0_h2 => k0_hw3.1 k0_h2
theorem k0_off8_inb : ∀ (arg11_r0 : BitVec 32) (arg12_r0 : BitVec 32) (arg13_r0 : BitVec 32) (k0_hw3 : k0_chk3 arg11_r0 arg12_r0 arg13_r0), ∀ (k0_h2 : k0_cond2 arg11_r0 arg12_r0 = 1#1), ∀ a, (k0_off8 arg13_r0) a + S1x1024x4096.size a ≤ S3x1024x4096.size a := fun arg11_r0 arg12_r0 arg13_r0 k0_hw3 k0_h2 => k0_hw3.2 k0_h2

def k0_off9 (arg12_r0 : BitVec 32) : Fin 2 → Nat :=
  let c1024_i32_140_r0 : BitVec 32 := 1024#32
  let c0_i32_133_r0 : BitVec 32 := 0#32
  let v169_r0 : BitVec 32 := Scalar.addi arg12_r0 c0_i32_133_r0
  let v179_r0 : BitVec 32 := Scalar.muli c1024_i32_140_r0 v169_r0
  let c0_i32_143_r0 : BitVec 32 := 0#32
  ![v179_r0.toNat, 0]

def k0_chk4 (arg11_r0 : BitVec 32) (arg12_r0 : BitVec 32) : Prop :=
  (∀ (k0_h2 : k0_cond2 arg11_r0 arg12_r0 = 1#1), ∀ a, (k0_off9 arg12_r0) a + S1024x4096.size a ≤ S32768x4096.size a)
theorem k0_off9_inb : ∀ (arg11_r0 : BitVec 32) (arg12_r0 : BitVec 32) (k0_hw4 : k0_chk4 arg11_r0 arg12_r0), ∀ (k0_h2 : k0_cond2 arg11_r0 arg12_r0 = 1#1), ∀ a, (k0_off9 arg12_r0) a + S1024x4096.size a ≤ S32768x4096.size a := fun arg11_r0 arg12_r0 k0_hw4 k0_h2 => k0_hw4 k0_h2

def k0_off10 (arg6_r0 : BitVec 32) : Fin 1 → Nat :=
  let c3_i32_133_r0 : BitVec 32 := 3#32
  let v169_r0 : BitVec 32 := Scalar.remui arg6_r0 c3_i32_133_r0
  ![v169_r0.toNat]
def k0_cond3 (k0_t1 : Fin k0_t1_loop.trips) (arg10_r0 : BitVec 32) : BitVec 1 :=
  let c0_i32_73_r0 : BitVec 32 := 0#32
  let v73_r0 : BitVec 32 := Scalar.addi arg10_r0 c0_i32_73_r0
  let true_75_r0 : BitVec 1 := 1#1
  let c1_i32_74_r0 : BitVec 32 := 1#32
  let v74_r0 : BitVec 32 := Scalar.subi arg10_r0 c1_i32_74_r0
  let v75_r0 : BitVec 32 := Scalar.select true_75_r0 v74_r0 arg10_r0
  let c_m1_i32_76_r0 : BitVec 32 := 4294967295#32
  let v76_r0 : BitVec 1 := Scalar.cmpi .eq v75_r0 c_m1_i32_76_r0
  let c31_i32_77_r0 : BitVec 32 := 31#32
  let v77_r0 : BitVec 32 := Scalar.select v76_r0 c31_i32_77_r0 v75_r0
  let c0_i32_78_r0 : BitVec 32 := 0#32
  let v78_r0 : BitVec 32 := Scalar.addi v77_r0 c0_i32_78_r0
  let v107_r0 : BitVec 1 := Scalar.cmpi .ne v73_r0 v78_r0
  let c0_i32_38_r0 : BitVec 32 := 0#32
  let c1_i32_40_r0 : BitVec 32 := 1#32
  let arg4_r0 : BitVec 32 := Scf.iv c0_i32_38_r0 c1_i32_40_r0 k0_t1
  let c0_i32_71_r0 : BitVec 32 := 0#32
  let v71_r0 : BitVec 1 := Scalar.cmpi .eq arg4_r0 c0_i32_71_r0
  let v108_r0 : BitVec 1 := Scalar.ori v107_r0 v71_r0
  let c0_i32_102_r0 : BitVec 32 := 0#32
  let v109_r0 : BitVec 1 := Scalar.cmpi .sge arg4_r0 c0_i32_102_r0
  let v110_r0 : BitVec 1 := Scalar.andi v108_r0 v109_r0
  let v111_r0 : BitVec 32 := Scalar.extui v110_r0
  let c0_i32_103_r0 : BitVec 32 := 0#32
  let v112_r0 : BitVec 1 := Scalar.cmpi .ne v111_r0 c0_i32_103_r0
  v112_r0

def k0_off11 (arg6_r0 : BitVec 32) : Fin 3 → Nat :=
  let c3_i32_133_r0 : BitVec 32 := 3#32
  let v169_r0 : BitVec 32 := Scalar.remui arg6_r0 c3_i32_133_r0
  let c0_i32_134_r0 : BitVec 32 := 0#32
  let c0_i32_135_r0 : BitVec 32 := 0#32
  ![v169_r0.toNat, 0, 0]
def k0_off12 (arg10_r0 : BitVec 32) : Fin 2 → Nat :=
  let c1024_i32_132_r0 : BitVec 32 := 1024#32
  let c0_i32_73_r0 : BitVec 32 := 0#32
  let v73_r0 : BitVec 32 := Scalar.addi arg10_r0 c0_i32_73_r0
  let v168_r0 : BitVec 32 := Scalar.muli c1024_i32_132_r0 v73_r0
  let c0_i32_136_r0 : BitVec 32 := 0#32
  ![v168_r0.toNat, 0]
def k0_off13 (arg6_r0 : BitVec 32) : Fin 3 → Nat :=
  let c3_i32_106_r0 : BitVec 32 := 3#32
  let v119_r0 : BitVec 32 := Scalar.remui arg6_r0 c3_i32_106_r0
  let v121_r0 : Index := Scalar.indexCast v119_r0
  let c0_r0 : Index := 0#32
  let c0_108_r0 : Index := 0#32
  ![v121_r0.toNat, 0, 0]

def k0_chk6 (arg6_r0 : BitVec 32) : Prop :=
  (∀ a, (k0_off13 arg6_r0) a + S1x1024x4096.size a ≤ S3x1024x4096.size a)
theorem k0_off13_inb : ∀ (arg6_r0 : BitVec 32) (k0_hw6 : k0_chk6 arg6_r0), ∀ a, (k0_off13 arg6_r0) a + S1x1024x4096.size a ≤ S3x1024x4096.size a := fun arg6_r0 k0_hw6 => k0_hw6

def k0_off14 (arg8_r0 : BitVec 32) : Fin 3 → Nat :=
  let c2_i32_107_r0 : BitVec 32 := 2#32
  let v120_r0 : BitVec 32 := Scalar.remui arg8_r0 c2_i32_107_r0
  let v130_r0 : Index := Scalar.indexCast v120_r0
  let c0_113_r0 : Index := 0#32
  let c0_114_r0 : Index := 0#32
  ![v130_r0.toNat, 0, 0]

def k0_chk7 (arg8_r0 : BitVec 32) : Prop :=
  (∀ a, (k0_off14 arg8_r0) a + S1x1024x64.size a ≤ S2x1024x64.size a)
theorem k0_off14_inb : ∀ (arg8_r0 : BitVec 32) (k0_hw7 : k0_chk7 arg8_r0), ∀ a, (k0_off14 arg8_r0) a + S1x1024x64.size a ≤ S2x1024x64.size a := fun arg8_r0 k0_hw7 => k0_hw7

def k0_off15 (arg8_r0 : BitVec 32) : Fin 1 → Nat :=
  let c2_i32_132_r0 : BitVec 32 := 2#32
  let v168_r0 : BitVec 32 := Scalar.remui arg8_r0 c2_i32_132_r0
  ![v168_r0.toNat]
def k0_cond6 (k0_t1 : Fin k0_t1_loop.trips) (arg10_r0 : BitVec 32) : BitVec 1 :=
  let c0_i32_73_r0 : BitVec 32 := 0#32
  let v73_r0 : BitVec 32 := Scalar.addi arg10_r0 c0_i32_73_r0
  let true_80_r0 : BitVec 1 := 1#1
  let c1_i32_79_r0 : BitVec 32 := 1#32
  let v79_r0 : BitVec 32 := Scalar.addi arg10_r0 c1_i32_79_r0
  let v80_r0 : BitVec 32 := Scalar.select true_80_r0 v79_r0 arg10_r0
  let c32_i32_81_r0 : BitVec 32 := 32#32
  let v81_r0 : BitVec 1 := Scalar.cmpi .eq v80_r0 c32_i32_81_r0
  let c0_i32_82_r0 : BitVec 32 := 0#32
  let v82_r0 : BitVec 32 := Scalar.select v81_r0 c0_i32_82_r0 v80_r0
  let c0_i32_83_r0 : BitVec 32 := 0#32
  let v83_r0 : BitVec 32 := Scalar.addi v82_r0 c0_i32_83_r0
  let v139_r0 : BitVec 1 := Scalar.cmpi .ne v73_r0 v83_r0
  let c0_i32_38_r0 : BitVec 32 := 0#32
  let c1_i32_40_r0 : BitVec 32 := 1#32
  let arg4_r0 : BitVec 32 := Scf.iv c0_i32_38_r0 c1_i32_40_r0 k0_t1
  let c31_i32_72_r0 : BitVec 32 := 31#32
  let v72_r0 : BitVec 1 := Scalar.cmpi .eq arg4_r0 c31_i32_72_r0
  let v140_r0 : BitVec 1 := Scalar.ori v139_r0 v72_r0
  let v141_r0 : BitVec 32 := Scalar.extui v140_r0
  let c0_i32_117_r0 : BitVec 32 := 0#32
  let v142_r0 : BitVec 1 := Scalar.cmpi .ne v141_r0 c0_i32_117_r0
  v142_r0

def k0_off16 (arg10_r0 : BitVec 32) : Fin 2 → Nat :=
  let c1024_i32_133_r0 : BitVec 32 := 1024#32
  let c0_i32_73_r0 : BitVec 32 := 0#32
  let v73_r0 : BitVec 32 := Scalar.addi arg10_r0 c0_i32_73_r0
  let v169_r0 : BitVec 32 := Scalar.muli c1024_i32_133_r0 v73_r0
  let c0_i32_134_r0 : BitVec 32 := 0#32
  ![v169_r0.toNat, 0]
def k0_off17 (arg8_r0 : BitVec 32) : Fin 3 → Nat :=
  let c2_i32_132_r0 : BitVec 32 := 2#32
  let v168_r0 : BitVec 32 := Scalar.remui arg8_r0 c2_i32_132_r0
  let c0_i32_135_r0 : BitVec 32 := 0#32
  let c0_i32_136_r0 : BitVec 32 := 0#32
  ![v168_r0.toNat, 0, 0]
def k0_off18 (arg9_r0 : BitVec 32) : Fin 1 → Nat :=
  let c2_i32_132_r0 : BitVec 32 := 2#32
  let v168_r0 : BitVec 32 := Scalar.remui arg9_r0 c2_i32_132_r0
  ![v168_r0.toNat]
def k0_cond8 (k0_t1 : Fin k0_t1_loop.trips) (arg10_r0 : BitVec 32) : BitVec 1 :=
  let c0_i32_73_r0 : BitVec 32 := 0#32
  let v73_r0 : BitVec 32 := Scalar.addi arg10_r0 c0_i32_73_r0
  let true_75_r0 : BitVec 1 := 1#1
  let c1_i32_74_r0 : BitVec 32 := 1#32
  let v74_r0 : BitVec 32 := Scalar.subi arg10_r0 c1_i32_74_r0
  let v75_r0 : BitVec 32 := Scalar.select true_75_r0 v74_r0 arg10_r0
  let c_m1_i32_76_r0 : BitVec 32 := 4294967295#32
  let v76_r0 : BitVec 1 := Scalar.cmpi .eq v75_r0 c_m1_i32_76_r0
  let c31_i32_77_r0 : BitVec 32 := 31#32
  let v77_r0 : BitVec 32 := Scalar.select v76_r0 c31_i32_77_r0 v75_r0
  let c0_i32_78_r0 : BitVec 32 := 0#32
  let v78_r0 : BitVec 32 := Scalar.addi v77_r0 c0_i32_78_r0
  let v152_r0 : BitVec 1 := Scalar.cmpi .ne v73_r0 v78_r0
  let c0_i32_38_r0 : BitVec 32 := 0#32
  let c1_i32_40_r0 : BitVec 32 := 1#32
  let arg4_r0 : BitVec 32 := Scf.iv c0_i32_38_r0 c1_i32_40_r0 k0_t1
  let c0_i32_71_r0 : BitVec 32 := 0#32
  let v71_r0 : BitVec 1 := Scalar.cmpi .eq arg4_r0 c0_i32_71_r0
  let true_123_r0 : BitVec 1 := 1#1
  let v153_r0 : BitVec 1 := Scalar.xori v71_r0 true_123_r0
  let v154_r0 : BitVec 1 := Scalar.andi v152_r0 v153_r0
  let v155_r0 : BitVec 32 := Scalar.extui v154_r0
  let c0_i32_124_r0 : BitVec 32 := 0#32
  let v156_r0 : BitVec 1 := Scalar.cmpi .ne v155_r0 c0_i32_124_r0
  v156_r0

def k0_off19 (arg10_r0 : BitVec 32) : Fin 2 → Nat :=
  let c1024_i32_133_r0 : BitVec 32 := 1024#32
  let true_75_r0 : BitVec 1 := 1#1
  let c1_i32_74_r0 : BitVec 32 := 1#32
  let v74_r0 : BitVec 32 := Scalar.subi arg10_r0 c1_i32_74_r0
  let v75_r0 : BitVec 32 := Scalar.select true_75_r0 v74_r0 arg10_r0
  let c_m1_i32_76_r0 : BitVec 32 := 4294967295#32
  let v76_r0 : BitVec 1 := Scalar.cmpi .eq v75_r0 c_m1_i32_76_r0
  let c31_i32_77_r0 : BitVec 32 := 31#32
  let v77_r0 : BitVec 32 := Scalar.select v76_r0 c31_i32_77_r0 v75_r0
  let c0_i32_78_r0 : BitVec 32 := 0#32
  let v78_r0 : BitVec 32 := Scalar.addi v77_r0 c0_i32_78_r0
  let v169_r0 : BitVec 32 := Scalar.muli c1024_i32_133_r0 v78_r0
  let c0_i32_134_r0 : BitVec 32 := 0#32
  ![v169_r0.toNat, 0]
def k0_off20 (arg9_r0 : BitVec 32) : Fin 3 → Nat :=
  let c2_i32_132_r0 : BitVec 32 := 2#32
  let v168_r0 : BitVec 32 := Scalar.remui arg9_r0 c2_i32_132_r0
  let c0_i32_135_r0 : BitVec 32 := 0#32
  let c0_i32_136_r0 : BitVec 32 := 0#32
  ![v168_r0.toNat, 0, 0]

def k0_chk5 (k0_t1 : Fin k0_t1_loop.trips) (arg6_r0 : BitVec 32) (arg8_r0 : BitVec 32) (arg9_r0 : BitVec 32) (arg10_r0 : BitVec 32) : Prop :=
  (∀ (k0_h3 : k0_cond3 k0_t1 arg10_r0 = 1#1), ∀ a, (k0_off10 arg6_r0) a + S1.size a ≤ S3.size a) ∧
  (∀ (k0_h3 : k0_cond3 k0_t1 arg10_r0 = 1#1), ∀ a, (k0_off11 arg6_r0) a + S1x1024x4096.size a ≤ S3x1024x4096.size a) ∧
  (∀ (k0_h3 : k0_cond3 k0_t1 arg10_r0 = 1#1), ∀ a, (k0_off12 arg10_r0) a + S1024x4096.size a ≤ S32768x4096.size a) ∧
  (∀ (k0_h6 : k0_cond6 k0_t1 arg10_r0 = 1#1), ∀ a, (k0_off15 arg8_r0) a + S1.size a ≤ S2.size a) ∧
  (∀ (k0_h6 : k0_cond6 k0_t1 arg10_r0 = 1#1), ∀ a, (k0_off16 arg10_r0) a + S1024x64.size a ≤ S32768x64.size a) ∧
  (∀ (k0_h6 : k0_cond6 k0_t1 arg10_r0 = 1#1), ∀ a, (k0_off17 arg8_r0) a + S1x1024x64.size a ≤ S2x1024x64.size a) ∧
  (∀ (k0_h8 : k0_cond8 k0_t1 arg10_r0 = 1#1), ∀ a, (k0_off18 arg9_r0) a + S1.size a ≤ S2.size a) ∧
  (∀ (k0_h8 : k0_cond8 k0_t1 arg10_r0 = 1#1), ∀ a, (k0_off19 arg10_r0) a + S1024x64.size a ≤ S32768x64.size a) ∧
  (∀ (k0_h8 : k0_cond8 k0_t1 arg10_r0 = 1#1), ∀ a, (k0_off20 arg9_r0) a + S1x1024x64.size a ≤ S2x1024x64.size a)
theorem k0_off10_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h3 : k0_cond3 k0_t1 arg10_r0 = 1#1), ∀ a, (k0_off10 arg6_r0) a + S1.size a ≤ S3.size a := fun k0_t1 arg6_r0 arg8_r0 arg9_r0 arg10_r0 k0_hw5 k0_h3 => k0_hw5.1 k0_h3
theorem k0_off11_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h3 : k0_cond3 k0_t1 arg10_r0 = 1#1), ∀ a, (k0_off11 arg6_r0) a + S1x1024x4096.size a ≤ S3x1024x4096.size a := fun k0_t1 arg6_r0 arg8_r0 arg9_r0 arg10_r0 k0_hw5 k0_h3 => k0_hw5.2.1 k0_h3
theorem k0_off12_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h3 : k0_cond3 k0_t1 arg10_r0 = 1#1), ∀ a, (k0_off12 arg10_r0) a + S1024x4096.size a ≤ S32768x4096.size a := fun k0_t1 arg6_r0 arg8_r0 arg9_r0 arg10_r0 k0_hw5 k0_h3 => k0_hw5.2.2.1 k0_h3
theorem k0_off15_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h6 : k0_cond6 k0_t1 arg10_r0 = 1#1), ∀ a, (k0_off15 arg8_r0) a + S1.size a ≤ S2.size a := fun k0_t1 arg6_r0 arg8_r0 arg9_r0 arg10_r0 k0_hw5 k0_h6 => k0_hw5.2.2.2.1 k0_h6
theorem k0_off16_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h6 : k0_cond6 k0_t1 arg10_r0 = 1#1), ∀ a, (k0_off16 arg10_r0) a + S1024x64.size a ≤ S32768x64.size a := fun k0_t1 arg6_r0 arg8_r0 arg9_r0 arg10_r0 k0_hw5 k0_h6 => k0_hw5.2.2.2.2.1 k0_h6
theorem k0_off17_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h6 : k0_cond6 k0_t1 arg10_r0 = 1#1), ∀ a, (k0_off17 arg8_r0) a + S1x1024x64.size a ≤ S2x1024x64.size a := fun k0_t1 arg6_r0 arg8_r0 arg9_r0 arg10_r0 k0_hw5 k0_h6 => k0_hw5.2.2.2.2.2.1 k0_h6
theorem k0_off18_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h8 : k0_cond8 k0_t1 arg10_r0 = 1#1), ∀ a, (k0_off18 arg9_r0) a + S1.size a ≤ S2.size a := fun k0_t1 arg6_r0 arg8_r0 arg9_r0 arg10_r0 k0_hw5 k0_h8 => k0_hw5.2.2.2.2.2.2.1 k0_h8
theorem k0_off19_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h8 : k0_cond8 k0_t1 arg10_r0 = 1#1), ∀ a, (k0_off19 arg10_r0) a + S1024x64.size a ≤ S32768x64.size a := fun k0_t1 arg6_r0 arg8_r0 arg9_r0 arg10_r0 k0_hw5 k0_h8 => k0_hw5.2.2.2.2.2.2.2.1 k0_h8
theorem k0_off20_inb : ∀ (k0_t1 : Fin k0_t1_loop.trips) (arg6_r0 : BitVec 32) (arg8_r0 : BitVec 32) (arg9_r0 : BitVec 32) (arg10_r0 : BitVec 32) (k0_hw5 : k0_chk5 k0_t1 arg6_r0 arg8_r0 arg9_r0 arg10_r0), ∀ (k0_h8 : k0_cond8 k0_t1 arg10_r0 = 1#1), ∀ a, (k0_off20 arg9_r0) a + S1x1024x64.size a ≤ S2x1024x64.size a := fun k0_t1 arg6_r0 arg8_r0 arg9_r0 arg10_r0 k0_hw5 k0_h8 => k0_hw5.2.2.2.2.2.2.2.2 k0_h8

def k0_off21 (v38_4_r0 : BitVec 32) : Fin 1 → Nat :=
  let c2_i32_r0 : BitVec 32 := 2#32
  let v64_r0 : BitVec 32 := Scalar.remui v38_4_r0 c2_i32_r0
  ![v64_r0.toNat]

def k0_off22 (v38_5_r0 : BitVec 32) : Fin 2 → Nat :=
  let c1024_i32_67_r0 : BitVec 32 := 1024#32
  let true_43_r0 : BitVec 1 := 1#1
  let c1_i32_42_r0 : BitVec 32 := 1#32
  let v39_r0 : BitVec 32 := Scalar.subi v38_5_r0 c1_i32_42_r0
  let v40_r0 : BitVec 32 := Scalar.select true_43_r0 v39_r0 v38_5_r0
  let c_m1_i32_44_r0 : BitVec 32 := 4294967295#32
  let v41_r0 : BitVec 1 := Scalar.cmpi .eq v40_r0 c_m1_i32_44_r0
  let c31_i32_45_r0 : BitVec 32 := 31#32
  let v42_r0 : BitVec 32 := Scalar.select v41_r0 c31_i32_45_r0 v40_r0
  let c0_i32_46_r0 : BitVec 32 := 0#32
  let v43_r0 : BitVec 32 := Scalar.addi v42_r0 c0_i32_46_r0
  let v65_r0 : BitVec 32 := Scalar.muli c1024_i32_67_r0 v43_r0
  let c0_i32_68_r0 : BitVec 32 := 0#32
  ![v65_r0.toNat, 0]

def k0_chk9 (v38_5_r0 : BitVec 32) : Prop :=
  (∀ a, (k0_off22 v38_5_r0) a + S1024x64.size a ≤ S32768x64.size a)
theorem k0_off22_inb : ∀ (v38_5_r0 : BitVec 32) (k0_hw9 : k0_chk9 v38_5_r0), ∀ a, (k0_off22 v38_5_r0) a + S1024x64.size a ≤ S32768x64.size a := fun v38_5_r0 k0_hw9 => k0_hw9

def k0_off23 (v38_4_r0 : BitVec 32) : Fin 3 → Nat :=
  let c2_i32_r0 : BitVec 32 := 2#32
  let v64_r0 : BitVec 32 := Scalar.remui v38_4_r0 c2_i32_r0
  let c0_i32_69_r0 : BitVec 32 := 0#32
  let c0_i32_70_r0 : BitVec 32 := 0#32
  ![v64_r0.toNat, 0, 0]

def k0_chk8 (v38_4_r0 : BitVec 32) : Prop :=
  (∀ a, (k0_off21 v38_4_r0) a + S1.size a ≤ S2.size a) ∧
  (∀ a, (k0_off23 v38_4_r0) a + S1x1024x64.size a ≤ S2x1024x64.size a)
theorem k0_off21_inb : ∀ (v38_4_r0 : BitVec 32) (k0_hw8 : k0_chk8 v38_4_r0), ∀ a, (k0_off21 v38_4_r0) a + S1.size a ≤ S2.size a := fun v38_4_r0 k0_hw8 => k0_hw8.1
theorem k0_off23_inb : ∀ (v38_4_r0 : BitVec 32) (k0_hw8 : k0_chk8 v38_4_r0), ∀ a, (k0_off23 v38_4_r0) a + S1x1024x64.size a ≤ S2x1024x64.size a := fun v38_4_r0 k0_hw8 => k0_hw8.2

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x8192x4096 : Shape := ⟨3, ![4, 8192, 4096]⟩
abbrev S64x4096 : Shape := ⟨2, ![64, 4096]⟩
abbrev S64 : Shape := ⟨1, ![64]⟩
abbrev S32768x4096 : Shape := ⟨2, ![32768, 4096]⟩
abbrev S4096x64 : Shape := ⟨2, ![4096, 64]⟩
abbrev S32768x64 : Shape := ⟨2, ![32768, 64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S64x4096, .f32⟩
  | .hbm, ⟨2, _⟩ => ⟨S64, .f32⟩
  | .hbm, ⟨3, _⟩ => ⟨S32768x4096, .f32⟩
  | .hbm, ⟨4, _⟩ => ⟨S4096x64, .f32⟩
  | .hbm, ⟨5, _⟩ => ⟨S32768x64, .f32⟩
  | .hbm, ⟨6, _⟩ => ⟨S1x64, .f32⟩
  | .hbm, ⟨7, _⟩ => ⟨S32768x64, .f32⟩
  | .hbm, ⟨8, _⟩ => ⟨S32768x64, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Words.lean ====
/-
  The words the kernel computes, in closed form. Every slot number, block number and flag is a function of the trip
  number `k < 32`; each equation below is decided at every trip.
-/
module

public import proofs.«01_k».proof.Proof.Gen.KernelIdeal.Skeleton

@[expose] public section

set_option maxRecDepth 16384

noncomputable section

namespace Cert.Proof.Words

open Cert.KernelIdeal Cert.KernelIdeal.Gen
open Idealize.ShloMosaic Idealize.SL.Sem

/-- The 32-bit word of a natural number. -/
abbrev w (n : ℕ) : BitVec 32 := BitVec.ofNat 32 n

/-- The words carried into trip `k`: the reads issued, the trip, the block last issued, the trip again, the copies out
    waited for, and the trip modulo 32. -/
abbrev carried (k : ℕ) : BitVec 32 × BitVec 32 × BitVec 32 × BitVec 32 × BitVec 32 × BitVec 32 :=
  (w (min (k + 2) 32), w k, w (min (k + 1) 31), w k, w (k - 1), w (k % 32))

/-! ## The prologue -/

theorem off1_eq : k0_off1 = ![0] := by decide
theorem off2_eq : k0_off2 = ![0, 0, 0] := by decide
theorem off3_eq : k0_off3 = ![0, 0] := by decide
theorem chk1_one : k0_chk1 0#32 1#32 1#32 := by decide
theorem chk2_one : k0_chk2 0#32 1#32 := by decide
theorem cond1_one : k0_cond1 0#32 1#32 = 1#1 := by decide
theorem off4_one : k0_off4 1#32 = ![1] := by decide
theorem off5_one : k0_off5 1#32 = ![1, 0, 0] := by decide
theorem off6_one : k0_off6 1#32 = ![1024, 0] := by decide

/-- The test of the first `while`: fewer reads issued than the smaller of 2 and 3, and blocks left. -/
abbrev guard1 (a5 a6 : BitVec 32) : BitVec 1 :=
  Scalar.andi (Scalar.andi 1#1 (Scalar.cmpi .ult a6 (Scalar.select (Scalar.cmpi .ult (Scalar.addi 0#32 3#32)
    (Scalar.addi (Scalar.addi 0#32 1#32) 1#32)) (Scalar.addi 0#32 3#32) (Scalar.addi (Scalar.addi 0#32 1#32) 1#32))))
    (Scalar.andi 1#1 (Scalar.cmpi .slt a5 32#32))

theorem guard1_in : guard1 1#32 1#32 = 1#1 := by decide
theorem guard1_out : ¬guard1 2#32 2#32 = 1#1 := by decide
theorem next5_one : Scalar.select 0#1 0#32 (Scalar.select 1#1 (Scalar.addi 1#32 1#32) 1#32) = 2#32 := by decide
theorem next6_one : Scalar.addi 1#32 (Scalar.extui (Scalar.cmpi .ne (Scalar.addi 0#32 0#32) (Scalar.addi 1#32 0#32))) = 2#32 := by decide

/-! ## The read issued in a trip -/

/-- The test of the second `while`: fewer reads issued than the bound, and blocks left. -/
abbrev guard2 (v98 a12 a13 : BitVec 32) : BitVec 1 :=
  Scalar.andi (Scalar.andi 1#1 (Scalar.cmpi .ult a13 v98)) (Scalar.andi 1#1 (Scalar.cmpi .slt a12 32#32))

theorem guard2_in : ∀ k : Fin 30, guard2 (w (k + 3)) (w (k + 2)) (w (k + 2)) = 1#1 := by decide +kernel
theorem guard2_out : ∀ k : Fin 30, ¬guard2 (w (k + 3)) (w (k + 3)) (w (k + 3)) = 1#1 := by decide +kernel
theorem guard2_end : ∀ k : Fin 32, ¬k.val < 30 → ¬guard2 (w (k + 3)) 32#32 32#32 = 1#1 := by decide +kernel
theorem chk3_in : ∀ k : Fin 30, k0_chk3 (w (k + 1)) (w (k + 2)) (w (k + 2)) := by decide +kernel
theorem chk4_in : ∀ k : Fin 30, k0_chk4 (w (k + 1)) (w (k + 2)) := by decide +kernel
theorem cond2_in : ∀ k : Fin 30, k0_cond2 (w (k + 1)) (w (k + 2)) = 1#1 := by decide +kernel
theorem off7_in : ∀ k : Fin 30, k0_off7 (w (k + 2)) = ![(k.val + 2) % 3] := by decide +kernel
theorem off8_in : ∀ k : Fin 30, k0_off8 (w (k + 2)) = ![(k.val + 2) % 3, 0, 0] := by decide +kernel
theorem off9_in : ∀ k : Fin 30, k0_off9 (w (k + 2)) = ![1024 * (k.val + 2), 0] := by decide +kernel

theorem next12_in : ∀ k : Fin 30, Scalar.select 0#1 0#32 (Scalar.select 1#1 (Scalar.addi (w (k + 2)) 1#32) (w (k + 2))) = w (k + 3) := by
  decide +kernel
theorem next13_in : ∀ k : Fin 30, Scalar.addi (w (k + 2))
    (Scalar.extui (Scalar.cmpi .ne (Scalar.addi (w (k + 1)) 0#32) (Scalar.addi (w (k + 2)) 0#32))) = w (k + 3) := by
  decide +kernel

/-! ## The rest of a trip -/

theorem arg12_at : ∀ k : Fin 32, Scalar.select 0#1 0#32 (Scalar.select 1#1 (Scalar.addi (w (min (k.val + 1) 31)) 1#32) (w (min (k.val + 1) 31)))
    = w (min (k.val + 2) 32) := by decide +kernel
theorem v98_at : ∀ k : Fin 32, Scalar.addi (w k) 3#32 = w (k + 3) := by decide +kernel

/-- The block before block `a`, in a circle of 32. -/
abbrev prevBlk (a : BitVec 32) : BitVec 32 :=
  Scalar.addi (Scalar.select (Scalar.cmpi .eq (Scalar.select 1#1 (Scalar.subi a 1#32) a) 4294967295#32) 31#32 (Scalar.select 1#1 (Scalar.subi a 1#32) a)) 0#32

/-- A trip's block `a` differs from the next, `b`, or the trip is the last. -/
abbrev moves (t : Fin k0_t1_loop.trips) (a b : BitVec 32) : BitVec 1 :=
  Scalar.ori (Scalar.cmpi .ne (Scalar.addi a 0#32) (Scalar.addi b 0#32)) (Scalar.cmpi .eq (Scf.iv 0#32 1#32 t) 31#32)
/-- A trip's block differs from the one before, and the trip is not the first. -/
abbrev moved (t : Fin k0_t1_loop.trips) (a : BitVec 32) : BitVec 1 :=
  Scalar.andi (Scalar.cmpi .ne (Scalar.addi a 0#32) (prevBlk a)) (Scalar.xori (Scalar.cmpi .eq (Scf.iv 0#32 1#32 t) 0#32) 1#1)

theorem next6_at : ∀ k : Fin k0_t1_loop.trips, Scalar.select (moves k (w (k.val % 32)) (w ((k.val + 1) % 32))) (Scalar.addi (w k) 1#32) (w k) = w (k + 1) := by decide +kernel
theorem next8_at : ∀ k : Fin k0_t1_loop.trips, Scalar.select (Scalar.andi (moves k (w (k.val % 32)) (w ((k.val + 1) % 32))) 1#1) (Scalar.addi (w k) 1#32) (w k) = w (k + 1) := by
  decide +kernel
theorem next9_at : ∀ k : Fin k0_t1_loop.trips, Scalar.select (Scalar.andi (moved k (w (k.val % 32))) 1#1) (Scalar.addi (w (k - 1)) 1#32) (w (k - 1)) = w k := by
  decide +kernel
theorem next10_at : ∀ k : Fin 32, Scalar.select (Scalar.cmpi .eq (Scalar.select 1#1 (Scalar.addi (w (k.val % 32)) 1#32) (w (k.val % 32))) 32#32) 0#32
    (Scalar.select 1#1 (Scalar.addi (w (k.val % 32)) 1#32) (w (k.val % 32))) = w ((k.val + 1) % 32) := by decide +kernel

theorem chk5_at : ∀ k : Fin k0_t1_loop.trips, k0_chk5 k (w k) (w k) (w (k - 1)) (w (k.val % 32)) := by decide +kernel
theorem chk6_at : ∀ k : Fin 32, k0_chk6 (w k) := by decide +kernel
theorem chk7_at : ∀ k : Fin 32, k0_chk7 (w k) := by decide +kernel
theorem cond3_at : ∀ k : Fin k0_t1_loop.trips, k0_cond3 k (w (k.val % 32)) = 1#1 := by decide +kernel
theorem cond6_at : ∀ k : Fin k0_t1_loop.trips, k0_cond6 k (w (k.val % 32)) = 1#1 := by decide +kernel
theorem cond8_pos : ∀ k : Fin k0_t1_loop.trips, 0 < k.val → k0_cond8 k (w (k.val % 32)) = 1#1 := by decide +kernel
theorem cond8_zero : ∀ k : Fin k0_t1_loop.trips, k.val = 0 → ¬k0_cond8 k (w (k.val % 32)) = 1#1 := by decide +kernel
theorem off10_at : ∀ k : Fin 32, k0_off10 (w k) = ![k.val % 3] := by decide +kernel
theorem off11_at : ∀ k : Fin 32, k0_off11 (w k) = ![k.val % 3, 0, 0] := by decide +kernel
theorem off12_at : ∀ k : Fin 32, k0_off12 (w (k.val % 32)) = ![1024 * k.val, 0] := by decide +kernel
theorem off13_at : ∀ k : Fin 32, k0_off13 (w k) = ![k.val % 3, 0, 0] := by decide +kernel
theorem off14_at : ∀ k : Fin 32, k0_off14 (w k) = ![k.val % 2, 0, 0] := by decide +kernel
theorem off15_at : ∀ k : Fin 32, k0_off15 (w k) = ![k.val % 2] := by decide +kernel
theorem off16_at : ∀ k : Fin 32, k0_off16 (w (k.val % 32)) = ![1024 * k.val, 0] := by decide +kernel
theorem off17_at : ∀ k : Fin 32, k0_off17 (w k) = ![k.val % 2, 0, 0] := by decide +kernel
theorem off18_at : ∀ k : Fin 32, k0_off18 (w (k - 1)) = ![(k.val - 1) % 2] := by decide +kernel
theorem off19_at : ∀ k : Fin 32, 0 < k.val → k0_off19 (w (k.val % 32)) = ![1024 * (k.val - 1), 0] := by decide +kernel
theorem off20_at : ∀ k : Fin 32, k0_off20 (w (k - 1)) = ![(k.val - 1) % 2, 0, 0] := by decide +kernel

/-! ## After the loop -/

theorem chk8_end : k0_chk8 31#32 := by decide +kernel
theorem chk9_end : k0_chk9 0#32 := by decide +kernel
theorem off21_end : k0_off21 31#32 = ![1] := by decide +kernel
theorem off22_end : k0_off22 0#32 = ![1024 * 31, 0] := by decide +kernel
theorem off23_end : k0_off23 31#32 = ![1, 0, 0] := by decide +kernel

end Cert.Proof.Words

end
-- ==== Proof.Geom.lean ====
/-
  The names the proof gives to the pieces of memory the kernel moves: block `b` of the input and of the result, the three
  slots the input's blocks land in, the two slots the result's blocks leave from, and their semaphores; and the value
  stored for one block.
-/
module

public import proofs.«01_k».proof.Proof.Gen.KernelIdeal.Skeleton
public import proofs.«01_k».proof.Proof.Gen.KernelIdeal.Launch
public import Idealize.ShloMosaic.Lib.Pipeline.KitQuiescent
public import Idealize.ShloMosaic.Lib.Pipeline.ValueKit.Geometry
public import Idealize.ShloMosaic.Lib.Ring
public import Idealize.ShloMosaic.Lib.Tactic

@[expose] public section

set_option maxRecDepth 16384

noncomputable section

namespace Cert.Proof.Geom

open Cert.KernelIdeal Cert.KernelIdeal.Gen
open Idealize.ShloMosaic Idealize.ShloMosaic.TcCoe Idealize.SL.Sem

variable {F : FTy → Type} [FloatOps F]

/-! ## Offsets and their bounds -/

theorem xinb (b : Fin 32) : ∀ a, (![1024 * b.val, 0] : Fin 2 → ℕ) a + S1024x4096.size a ≤ S32768x4096.size a := by
  have := b.isLt; intro a; fin_cases a
  · show 1024 * b.val + 1024 ≤ 32768; omega
  · show 0 + 4096 ≤ 4096; omega
theorem oinb (b : Fin 32) : ∀ a, (![1024 * b.val, 0] : Fin 2 → ℕ) a + S1024x64.size a ≤ S32768x64.size a := by
  have := b.isLt; intro a; fin_cases a
  · show 1024 * b.val + 1024 ≤ 32768; omega
  · show 0 + 64 ≤ 64; omega
theorem rinb (s : Fin 3) : ∀ a, (![s.val, 0, 0] : Fin 3 → ℕ) a + S1x1024x4096.size a ≤ S3x1024x4096.size a := by
  have := s.isLt; intro a; fin_cases a
  · show s.val + 1 ≤ 3; omega
  · show 0 + 1024 ≤ 1024; omega
  · show 0 + 4096 ≤ 4096; omega
theorem winb (s : Fin 2) : ∀ a, (![s.val, 0, 0] : Fin 3 → ℕ) a + S1x1024x64.size a ≤ S2x1024x64.size a := by
  have := s.isLt; intro a; fin_cases a
  · show s.val + 1 ≤ 2; omega
  · show 0 + 1024 ≤ 1024; omega
  · show 0 + 64 ≤ 64; omega
theorem rsinb (s : Fin 3) : ∀ a, (![s.val] : Fin 1 → ℕ) a + S1.size a ≤ S3.size a := by
  have := s.isLt; intro a; fin_cases a; show s.val + 1 ≤ 3; omega
theorem wsinb (s : Fin 2) : ∀ a, (![s.val] : Fin 1 → ℕ) a + S1.size a ≤ S2.size a := by
  have := s.isLt; intro a; fin_cases a; show s.val + 1 ≤ 2; omega

/-! ## The names -/

/-- The input, reshaped to rows. -/
abbrev xM : Memref sig .tc .hbm S32768x4096 .f32 := Memref.whole main_v0
/-- The result. -/
abbrev oM : Memref sig .tc .hbm S32768x64 .f32 := Memref.whole main_v2
/-- The buffer the input's blocks land in. -/
abbrev rM : Memref sig .tc .vmem S3x1024x4096 .f32 := Memref.whole cc0_scoped0
/-- The buffer the result's blocks leave from. -/
abbrev wM : Memref sig .tc .vmem S2x1024x64 .f32 := Memref.whole cc0_scoped2

/-- The rectangle of slot `s` in the landing buffer, -/
abbrev rrect (s : Fin 3) : Rect S3x1024x4096 := Rect.unit (s := S3x1024x4096) ![s.val, 0, 0] S1x1024x4096.size (rinb s)
/-- of slot `s` in the leaving buffer, -/
abbrev wrect (s : Fin 2) : Rect S2x1024x64 := Rect.unit (s := S2x1024x64) ![s.val, 0, 0] S1x1024x64.size (winb s)
/-- of block `b` of the input, -/
abbrev xrect (b : Fin 32) : Rect S32768x4096 := Rect.unit (s := S32768x4096) ![1024 * b.val, 0] S1024x4096.size (xinb b)
/-- and of block `b` of the result. -/
abbrev orect (b : Fin 32) : Rect S32768x64 := Rect.unit (s := S32768x64) ![1024 * b.val, 0] S1024x64.size (oinb b)

/-- Block `b` of the input: rows `1024 b` to `1024 b + 1023`. -/
def xblk (b : Fin 32) : Memref sig .tc .hbm S1024x4096 .f32 := xM.slice (xrect b) (fun _ => rfl)
/-- Block `b` of the result. -/
def oblk (b : Fin 32) : Memref sig .tc .hbm S1024x64 .f32 := oM.slice (orect b) (fun _ => rfl)
/-- Slot `s` of the landing buffer. -/
def rslot (s : Fin 3) : Memref sig .tc .vmem S1024x4096 .f32 :=
  (rM.slice (rrect s) (fun _ => rfl)).squeeze S1024x4096 squeezes_S1x1024x4096_S1024x4096
/-- Slot `s` of the leaving buffer. -/
def wslot (s : Fin 2) : Memref sig .tc .vmem S1024x64 .f32 :=
  (wM.slice (wrect s) (fun _ => rfl)).squeeze S1024x64 squeezes_S1x1024x64_S1024x64
/-- The semaphore of landing slot `s`. -/
def rsem (s : Fin 3) : DmaSem sig :=
  ((cc0_scoped1.slice (Rect.unit (s := S3) ![s.val] S1.size (rsinb s))).squeeze S_ squeezes_S1_S_).sem
/-- The semaphore of leaving slot `s`. -/
def wsem (s : Fin 2) : DmaSem sig :=
  ((cc0_scoped3.slice (Rect.unit (s := S2) ![s.val] S1.size (wsinb s))).squeeze S_ squeezes_S1_S_).sem

/-! ## Element sets -/

theorem rslot_set (s : Fin 3) : (rslot s).view.set = (rrect s).set :=
  (View.set_reshape _ _).trans (View.set_slice_whole cc0_scoped0 (rrect s))
theorem wslot_set (s : Fin 2) : (wslot s).view.set = (wrect s).set :=
  (View.set_reshape _ _).trans (View.set_slice_whole cc0_scoped2 (wrect s))
theorem xblk_set (b : Fin 32) : (xblk b).view.set = (xrect b).set := View.set_slice_whole main_v0 (xrect b)
theorem oblk_set (b : Fin 32) : (oblk b).view.set = (orect b).set := View.set_slice_whole main_v2 (orect b)

/-- The elements of block `b` of the result are those of its rows. -/
theorem mem_oblk (b : Fin 32) (i : S32768x64.Idx) :
    i ∈ (orect b).set ↔ 1024 * b.val ≤ (i 0).val ∧ (i 0).val < 1024 * b.val + 1024 := by
  rw [Rect.mem_set_unit]
  constructor
  · intro h; exact h 0
  · intro h a; fin_cases a
    · exact h
    · exact ⟨Nat.zero_le _, by have h1 := (i 1).isLt; show (i 1).val < 0 + 64; exact (by simpa using h1)⟩

/-- The elements of the result in rows below `n`. -/
def rowsLt (n : ℕ) : Finset S32768x64.Idx := Finset.univ.filter fun i => (i 0).val < n
/-- The elements of the result in rows from `n` on. -/
def rowsGe (n : ℕ) : Finset S32768x64.Idx := Finset.univ.filter fun i => n ≤ (i 0).val

theorem rowsLt_zero : rowsLt 0 = ∅ := by
  ext i; simp [rowsLt]
theorem rowsGe_zero : rowsGe 0 = Finset.univ := by
  ext i; simp [rowsGe]
theorem rowsLt_all : rowsLt (1024 * 32) = Finset.univ := by
  ext i
  have : (i 0).val < 32768 := (i 0).isLt
  simp only [rowsLt, Finset.mem_filter, Finset.mem_univ, true_and, iff_true]; omega
theorem rowsGe_all : rowsGe (1024 * 32) = ∅ := by
  ext i
  have : (i 0).val < 32768 := (i 0).isLt
  simp only [rowsGe, Finset.mem_filter, Finset.mem_univ, true_and, Finset.notMem_empty, iff_false]; omega
theorem rowsLt_succ (b : Fin 32) : rowsLt (1024 * (b.val + 1)) = rowsLt (1024 * b.val) ∪ (orect b).set := by
  ext i
  rw [Finset.mem_union, mem_oblk]
  simp only [rowsLt, Finset.mem_filter, Finset.mem_univ, true_and]; omega
theorem rowsLt_disj (b : Fin 32) : Disjoint (rowsLt (1024 * b.val)) (orect b).set := by
  rw [Finset.disjoint_left]; intro i h1 h2
  rw [mem_oblk] at h2
  simp only [rowsLt, Finset.mem_filter, Finset.mem_univ, true_and] at h1; omega
theorem rowsGe_succ (b : Fin 32) : rowsGe (1024 * b.val) = (orect b).set ∪ rowsGe (1024 * (b.val + 1)) := by
  ext i
  rw [Finset.mem_union, mem_oblk]
  simp only [rowsGe, Finset.mem_filter, Finset.mem_univ, true_and]; omega
theorem rowsGe_disj (b : Fin 32) : Disjoint (orect b).set (rowsGe (1024 * (b.val + 1))) := by
  rw [Finset.disjoint_left]; intro i h1 h2
  rw [mem_oblk] at h1
  simp only [rowsGe, Finset.mem_filter, Finset.mem_univ, true_and] at h2; omega

/-! ## The value of one block -/

/-- What the kernel computes from a block of the input, the weight and the bias row. -/
def outB (xb : FVec F S1024x4096 .f32) (wv : FVec F S64x4096 .f32) (bv : FVec F S1x64 .f32) : FVec F S1024x64 .f32 :=
  addf (matmul dot_S1024x4096_S64x4096_S1024x64_1_1_0_0_n_n none xb wv (constant S1024x64 .f32 0x00000000#32))
    (broadcastTo S1024x64 (shapeCast S1x64 bv shapeCasts_S1x64_S1x64) broadcasts_S1x64_S1024x64)

/-- The stored payload is that value, cast to the slot's shape. -/
theorem pay1_eq (v : Vec F S1x1024x4096 .f32) (wv : Vec F S64x4096 .f32) (bv : Vec F S1x64 .f32) :
    k0_pay1 v wv bv = shapeCast S1x1024x64 (outB (shapeCast S1024x4096 v shapeCasts_S1x1024x4096_S1024x4096) wv bv)
      shapeCasts_S1024x64_S1x1024x64 := rfl

/-- The index inside its block of an element of the result. -/
def inner (i : S32768x64.Idx) : S1024x64.Idx := fun a =>
  ⟨(![(i 0).val % 1024, (i 1).val] : Fin 2 → ℕ) a, by
    fin_cases a
    · exact Nat.mod_lt _ (by decide)
    · exact (i 1).isLt⟩

/-- The block of an element of the result. -/
def outer (i : S32768x64.Idx) : Fin 32 := ⟨(i 0).val / 1024, by
  have : (i 0).val < 32768 := (i 0).isLt
  omega⟩

/-- The result the kernel leaves: at every element, its block's value there. -/
def outAll (X : main_v0.ty.Contents (Elt F)) (wv : FVec F S64x4096 .f32) (bv : FVec F S1x64 .f32) : main_v2.ty.Contents (Elt F) :=
  fun i => outB ((xblk (outer i)).view.read (Elt F) X) wv bv (inner i)

/-- The result's block `b` reads the block's value. -/
theorem read_outAll (X : main_v0.ty.Contents (Elt F)) (wv : FVec F S64x4096 .f32) (bv : FVec F S1x64 .f32) (b : Fin 32) :
    (oblk b).view.read (Elt F) (outAll X wv bv) = outB ((xblk b).view.read (Elt F) X) wv bv := by
  funext j
  have h0 : (((orect b).emb j 0 : Fin _) : ℕ) = 1024 * b.val + (j 0).val :=
    ValueKit.rect_emb_unit_val (s := S32768x64) ![1024 * b.val, 0] S1024x64.size (oinb b) j 0
  have h1 : (((orect b).emb j 1 : Fin _) : ℕ) = 0 + (j 1).val :=
    ValueKit.rect_emb_unit_val (s := S32768x64) ![1024 * b.val, 0] S1024x64.size (oinb b) j 1
  have hj : (j 0).val < 1024 := (j 0).isLt
  have ho : outer ((orect b).emb j) = b := by
    apply Fin.ext; show (((orect b).emb j 0 : Fin _) : ℕ) / 1024 = b.val; rw [h0]; omega
  have hi : inner ((orect b).emb j) = j := by
    funext a; apply Fin.ext
    fin_cases a
    · show (((orect b).emb j 0 : Fin _) : ℕ) % 1024 = (j 0).val; rw [h0]; omega
    · show (((orect b).emb j 1 : Fin _) : ℕ) = (j 1).val; rw [h1]; exact Nat.zero_add _
  show outB ((xblk (outer ((orect b).emb j))).view.read (Elt F) X) wv bv (inner ((orect b).emb j)) = _
  rw [ho, hi]

/-- Loading landing slot `s` and dropping the unit axis reads the slot. -/
theorem load_rslot (s : Fin 3) (f : cc0_scoped0.ty.Contents (Elt F)) :
    shapeCast S1024x4096 (rM.view.readAt (Elt F) (rrect s).toLoadRect f) shapeCasts_S1x1024x4096_S1024x4096
      = (rslot s).view.read (Elt F) f := rfl

/-- A payload stored whole in leaving slot `s` is what the slot then reads. -/
theorem store_wslot (s : Fin 2) (f : cc0_scoped2.ty.Contents (Elt F)) (v : FVec F S1024x64 .f32) :
    (wslot s).view.read (Elt F) ((wM.access (wrect s)).write (Elt F) f (shapeCast S1x1024x64 v shapeCasts_S1024x64_S1x1024x64) Finset.univ)
      = v := by
  show shapeCast S1024x64 ((wM.access (wrect s)).read (Elt F) ((wM.access (wrect s)).write (Elt F) f _ Finset.univ)) _ = v
  rw [View.read_write_univ]
  exact shapeCast_shapeCast v _ shapeCasts_S1x1024x64_S1024x64

end Cert.Proof.Geom

end
-- ==== Proof.Moves.lean ====
/-
  The kernel's transfers, one rule each: starting the read of a block into a slot, waiting for it, starting the copy of a
  slot out to the result, waiting for that. Each rule names the slot and the block by the offsets the program computes,
  with the equation that says which slot and which block they are.
-/
module

public import proofs.«01_k».proof.Proof.Geom
public import Idealize.ShloMosaic.Lib.Ring.Trips

@[expose] public section

set_option maxRecDepth 16384

noncomputable section

namespace Cert.Proof.Moves

open Cert.KernelIdeal Cert.KernelIdeal.Gen Cert.Proof.Geom
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev EC : UEmb Counters (MT nD τ sig Unit (Elt F) ℕ (UU nD τ) ℕ) := countersEmb
abbrev 𝒱₀ : Variants := Variants.nat

variable (c : Dev nD) (X : main_v0.ty.Contents (Elt F)) (G : main_v2.ty.Contents (Elt F))

/-- The part of the input's share that slot `s` reads under. -/
abbrev xq (s : Fin 3) : PosShare TreeShare := Ring.shares3 fullShare s

/-- The input, read-only, at slot `s`'s share. -/
abbrev xAt (s : Fin 3) : sProp 𝕄 := xM.view.loc (c : Thread nD τ) ↦{xq s} X

/-- Landing slot `s` at contents `f`. -/
abbrev rAt (s : Fin 3) (f : cc0_scoped0.ty.Contents (Elt F)) : sProp 𝕄 :=
  (rslot s).view.loc (c : Thread nD τ) ↦[(rslot s).view.set]{fullShare} f

/-- Leaving slot `s` at contents `f`. -/
abbrev wAt (s : Fin 2) (f : cc0_scoped2.ty.Contents (Elt F)) : sProp 𝕄 :=
  (wslot s).view.loc (c : Thread nD τ) ↦[(wslot s).view.set]{fullShare} f

/-- Landing slot `s` holds block `b` of the input. -/
def Landed (s : Fin 3) (b : Fin 32) : sProp 𝕄 :=
  iprop(∃ f : cc0_scoped0.ty.Contents (Elt F), rAt c s f ∗ ⌜(rslot s).view.read (Elt F) f = (xblk b).view.read (Elt F) X⌝)

/-- Landing slot `s` is free: its contents anything, its semaphore at zero, its share of the input in hand. -/
def FreeR (s : Fin 3) : sProp 𝕄 :=
  iprop((∃ f : cc0_scoped0.ty.Contents (Elt F), rAt c s f) ∗ semVal ((c : Thread nD τ), SemLoc.dma (rsem s)) 0 ∗ xAt c X s)

/-- Block `b` of the input is on its way into landing slot `s`. -/
def InR (s : Fin 3) (b : Fin 32) : sProp 𝕄 :=
  iprop(Transfers.Flight EC (c : Thread nD τ) (.dma (rsem s)) () (rslot s).view.dmaCredit
      iprop(Landed c X s b ∗ ((xblk b).view.loc (c : Thread nD τ) ↦[(xblk b).view.set]{xq s} X))
    ∗ (xM.view.loc (c : Thread nD τ) ↦[Finset.univ \ (xblk b).view.set]{xq s} X))

/-- Leaving slot `s` is free. -/
def FreeW (s : Fin 2) : sProp 𝕄 :=
  iprop((∃ f : cc0_scoped2.ty.Contents (Elt F), wAt c s f) ∗ semVal ((c : Thread nD τ), SemLoc.dma (wsem s)) 0)

/-- Leaving slot `s` is being copied out to block `b` of the result. -/
def InW (s : Fin 2) (b : Fin 32) : sProp 𝕄 :=
  Transfers.Flight EC (c : Thread nD τ) (.dma (wsem s)) () (oblk b).view.dmaCredit
    iprop(((oblk b).view.loc (c : Thread nD τ) ↦[(oblk b).view.set]{fullShare} G)
      ∗ ∃ f : cc0_scoped2.ty.Contents (Elt F), wAt c s f)

theorem rcredit (s : Fin 3) : 0 < (rslot s).view.dmaCredit := View.amount_pos (rslot s).view (.dma (rsem s)) (by decide)
theorem wcredit (b : Fin 32) : 0 < (oblk b).view.dmaCredit := View.amount_pos (oblk b).view (.dma (wsem 0)) (by decide)

/-- Writing through a view what the view reads of `G` leaves `G` on the view's elements. -/
theorem write_read_mem {sg : RefSig} {κ : Kind} {sp : Space} {s : Shape} {e : EltTy} (Val : EltTy → Type)
    (v : View sg κ sp s e) (g G : v.ty.Contents Val) (i : v.ty.Idx) (hi : i ∈ v.set) :
    v.write Val g (v.read Val G) Finset.univ i = G i := by
  obtain ⟨x, -, rfl⟩ := Finset.mem_map.mp hi
  rw [View.write_emb_of_mem (Val := Val) (v := v) g _ (Finset.mem_univ x), View.read_apply]
  simp

/-- The input at a slot's share, split into a block and the rest. -/
theorem x_split (s : Fin 3) (b : Fin 32) :
    (xAt c X s : sProp 𝕄) ⊣⊢ iprop(((xblk b).view.loc (c : Thread nD τ) ↦[(xblk b).view.set]{xq s} X)
      ∗ (xM.view.loc (c : Thread nD τ) ↦[Finset.univ \ (xblk b).view.set]{xq s} X)) :=
  pointsTo_split_subset (ℓ := xM.view.loc (c : Thread nD τ)) (Finset.subset_univ _)

/-- Starting the read of block `b` into free landing slot `s`. -/
theorem wp_startR {bd : Option 𝒱₀.V} {α : Type} {Q : α → sProp 𝕄}
    {k : PUnit → Prog (TpuEff nD τ sig (Elt F) (Λ₀ F) .tc) α}
    (s : Fin 3) (b : Fin 32) {os : Fin 1 → ℕ} {or : Fin 3 → ℕ} {ox : Fin 2 → ℕ} {hs hr hx h1 h2 h3}
    (es : os = ![s.val]) (er : or = ![s.val, 0, 0]) (ex : ox = ![1024 * b.val, 0]) :
    FreeR c X s ⊢ iprop((InR c X s b -∗ wp frame (wpE (defs₀ (F := F)) 𝒱₀ (c : Thread nD τ) bd) Set.univ (k ⟨⟩) Q)
      -∗ wp frame (wpE (defs₀ (F := F)) 𝒱₀ (c : Thread nD τ) bd) Set.univ
          (.op (.enqueueDma (xM.slice (Rect.unit (s := S32768x4096) ox S1024x4096.size hx) (fun _ => rfl))
            (.here ((rM.slice (Rect.unit (s := S3x1024x4096) or S1x1024x4096.size hr) (fun _ => rfl)).squeeze S1024x4096 squeezes_S1x1024x4096_S1024x4096))
            (.dma ((cc0_scoped1.slice (Rect.unit (s := S3) os S1.size hs)).squeeze S_ squeezes_S1_S_).sem) h1 h2 h3) k) Q) := by
  subst es er ex
  unfold FreeR
  iintro ⟨⟨%f, Hr⟩, Hv, Hx⟩ Hk
  have hsp := (x_split c X s b).1
  ihave Hx2 := hsp $$ Hx
  icases Hx2 with ⟨Hb, Hrest⟩
  iapply (Transfers.wp_dmaLocal EC 𝒱₀ (c : Thread nD τ) bd (src := xblk b) (dst := rslot s) (sm := .dma (rsem s)) (q := xq s) (fs := X)
    (Sd := (rslot s).view.set) (fd := f) () (rslot s).view.dmaCredit rfl (rcredit s) (Finset.Subset.refl _)) $$ [Hb Hr Hv]
  · isplitl [Hb]; · iexact Hb
    isplitl [Hr]; · iexact Hr
    iexact Hv
  iintro Hf
  iapply Hk
  unfold InR
  isplitl [Hf]
  · iapply (Transfers.Flight_mono EC (c : Thread nD τ) ?_) $$ Hf
    iintro ⟨Hr, Hb⟩
    isplitl [Hr]
    · unfold Landed
      iexists _
      isplitl [Hr]; · iexact Hr
      ipureintro
      exact View.read_write_univ _ _
    · iexact Hb
  · iexact Hrest

/-- Waiting for the read of block `b` into landing slot `s`: the slot then holds the block. -/
theorem wp_waitR {bd : Option 𝒱₀.V} {α : Type} {Q : α → sProp 𝕄}
    {k : PUnit → Prog (TpuEff nD τ sig (Elt F) (Λ₀ F) .tc) α}
    (s : Fin 3) (b : Fin 32) (W : Waits sig Unit) {os : Fin 1 → ℕ} {or : Fin 3 → ℕ} {ox : Fin 2 → ℕ} {hs hr hx h1 h2}
    (es : os = ![s.val]) (er : or = ![s.val, 0, 0]) (ex : ox = ![1024 * b.val, 0]) :
    iprop(InR c X s b ∗ owes (c : Thread nD τ) 0 W) ⊢ iprop((iprop(Landed c X s b ∗ semVal ((c : Thread nD τ), SemLoc.dma (rsem s)) 0 ∗ xAt c X s
          ∗ ∃ W' : Waits sig Unit, owes (c : Thread nD τ) 0 W')
        -∗ wp frame (wpE (defs₀ (F := F)) 𝒱₀ (c : Thread nD τ) bd) Set.univ (k ⟨⟩) Q)
      -∗ wp frame (wpE (defs₀ (F := F)) 𝒱₀ (c : Thread nD τ) bd) Set.univ
          (.op (.waitDma2 ((cc0_scoped1.slice (Rect.unit (s := S3) os S1.size hs)).squeeze S_ squeezes_S1_S_).sem
            (xM.slice (Rect.unit (s := S32768x4096) ox S1024x4096.size hx) (fun _ => rfl))
            ((rM.slice (Rect.unit (s := S3x1024x4096) or S1x1024x4096.size hr) (fun _ => rfl)).squeeze S1024x4096 squeezes_S1x1024x4096_S1024x4096)
            h1 h2) k) Q) := by
  subst es er ex
  unfold InR
  iintro ⟨⟨Hf, Hrest⟩, HO⟩ Hk
  have hsp := (x_split c X s b).2
  iapply (Transfers.wp_waitLocal EC 𝒱₀ (c : Thread nD τ) bd (sem := rsem s) (srcw := xblk b) (dstw := rslot s) () rfl) $$ [Hf HO]
  · isplitl [Hf]; · iexact Hf
    iexact HO
  iintro ⟨⟨HL, Hb⟩, Hv, HO⟩
  iapply Hk
  isplitl [HL]; · iexact HL
  isplitl [Hv]; · iexact Hv
  isplitl [Hb Hrest]
  · iapply hsp
    isplitl [Hb]; · iexact Hb
    iexact Hrest
  · iexists _; iexact HO

/-- Block `b` of the result after its values were written over it: it holds them. -/
theorem landed_eq (b : Fin 32) (g : main_v2.ty.Contents (Elt F)) :
    ((oblk b).view.loc (c : Thread nD τ) ↦[(oblk b).view.set]{fullShare}
        ((oblk b).view.write (Elt F) g (ReadAs.same.apply ((oblk b).view.read (Elt F) G)) Finset.univ) : sProp 𝕄)
      = ((oblk b).view.loc (c : Thread nD τ) ↦[(oblk b).view.set]{fullShare} G) :=
  pointsTo_congr fun i hi => write_read_mem (Elt F) (oblk b).view g G i hi

/-- Starting the copy of leaving slot `s`, holding `G`'s block `b`, out to that block of the result. -/
theorem wp_startW {bd : Option 𝒱₀.V} {α : Type} {Q : α → sProp 𝕄}
    {k : PUnit → Prog (TpuEff nD τ sig (Elt F) (Λ₀ F) .tc) α}
    (s : Fin 2) (b : Fin 32) (f : cc0_scoped2.ty.Contents (Elt F)) (g : main_v2.ty.Contents (Elt F))
    (hf : (wslot s).view.read (Elt F) f = (oblk b).view.read (Elt F) G)
    {os : Fin 1 → ℕ} {ow : Fin 3 → ℕ} {oo : Fin 2 → ℕ} {hs hw ho h1 h2 h3}
    (es : os = ![s.val]) (ew : ow = ![s.val, 0, 0]) (eo : oo = ![1024 * b.val, 0]) :
    iprop(wAt c s f ∗ semVal ((c : Thread nD τ), SemLoc.dma (wsem s)) 0
        ∗ ((oblk b).view.loc (c : Thread nD τ) ↦[(oblk b).view.set]{fullShare} g))
      ⊢ iprop((InW c G s b -∗ wp frame (wpE (defs₀ (F := F)) 𝒱₀ (c : Thread nD τ) bd) Set.univ (k ⟨⟩) Q)
      -∗ wp frame (wpE (defs₀ (F := F)) 𝒱₀ (c : Thread nD τ) bd) Set.univ
          (.op (.enqueueDma ((wM.slice (Rect.unit (s := S2x1024x64) ow S1x1024x64.size hw) (fun _ => rfl)).squeeze S1024x64 squeezes_S1x1024x64_S1024x64)
            (.here (oM.slice (Rect.unit (s := S32768x64) oo S1024x64.size ho) (fun _ => rfl)))
            (.dma ((cc0_scoped3.slice (Rect.unit (s := S2) os S1.size hs)).squeeze S_ squeezes_S1_S_).sem) h1 h2 h3) k) Q) := by
  subst es ew eo
  iintro ⟨Hw, Hv, Ho⟩ Hk
  iapply (Transfers.wp_dmaLocal EC 𝒱₀ (c : Thread nD τ) bd (src := wslot s) (dst := oblk b) (sm := .dma (wsem s)) (q := fullShare) (fs := f)
    (Sd := (oblk b).view.set) (fd := g) () (oblk b).view.dmaCredit rfl (wcredit b) (Finset.Subset.refl _)) $$ [Hw Ho Hv]
  · isplitl [Hw]; · iexact Hw
    isplitl [Ho]; · iexact Ho
    iexact Hv
  iintro Hf
  iapply Hk
  unfold InW
  iapply (Transfers.Flight_mono EC (c : Thread nD τ) ?_) $$ Hf
  iintro ⟨Ho, Hw⟩
  isplitl [Ho]
  · rw [hf, landed_eq c G b g]
    exact Entails.rfl
  · iexists _; iexact Hw

/-- Waiting for the copy out of leaving slot `s` to block `b`: the block holds the result's values and the slot is free. -/
theorem wp_waitW {bd : Option 𝒱₀.V} {α : Type} {Q : α → sProp 𝕄}
    {k : PUnit → Prog (TpuEff nD τ sig (Elt F) (Λ₀ F) .tc) α}
    (s : Fin 2) (b : Fin 32) (W : Waits sig Unit) {os : Fin 1 → ℕ} {ow : Fin 3 → ℕ} {oo : Fin 2 → ℕ} {hs hw ho h1 h2}
    (es : os = ![s.val]) (ew : ow = ![s.val, 0, 0]) (eo : oo = ![1024 * b.val, 0]) :
    iprop(InW c G s b ∗ owes (c : Thread nD τ) 0 W) ⊢ iprop((iprop(((oblk b).view.loc (c : Thread nD τ) ↦[(oblk b).view.set]{fullShare} G)
          ∗ FreeW c s ∗ ∃ W' : Waits sig Unit, owes (c : Thread nD τ) 0 W')
        -∗ wp frame (wpE (defs₀ (F := F)) 𝒱₀ (c : Thread nD τ) bd) Set.univ (k ⟨⟩) Q)
      -∗ wp frame (wpE (defs₀ (F := F)) 𝒱₀ (c : Thread nD τ) bd) Set.univ
          (.op (.waitDma2 ((cc0_scoped3.slice (Rect.unit (s := S2) os S1.size hs)).squeeze S_ squeezes_S1_S_).sem
            ((wM.slice (Rect.unit (s := S2x1024x64) ow S1x1024x64.size hw) (fun _ => rfl)).squeeze S1024x64 squeezes_S1x1024x64_S1024x64)
            (oM.slice (Rect.unit (s := S32768x64) oo S1024x64.size ho) (fun _ => rfl))
            h1 h2) k) Q) := by
  subst es ew eo
  unfold InW
  iintro ⟨Hf, HO⟩ Hk
  iapply (Transfers.wp_waitLocal EC 𝒱₀ (c : Thread nD τ) bd (sem := wsem s) (srcw := wslot s) (dstw := oblk b) () rfl) $$ [Hf HO]
  · isplitl [Hf]; · iexact Hf
    iexact HO
  iintro ⟨⟨Ho, Hw⟩, Hv, HO⟩
  iapply Hk
  isplitl [Ho]; · iexact Ho
  isplitl [Hw Hv]
  · unfold FreeW
    isplitl [Hw]; · iexact Hw
    iexact Hv
  · iexists _; iexact HO

end Cert.Proof.Moves

end
-- ==== Proof.Whiles.lean ====
/-
  The two `while` loops, each of which starts at most one read: the first before the trips, the second in every trip.
-/
module

public import proofs.«01_k».proof.Proof.Words
public import proofs.«01_k».proof.Proof.Moves

@[expose] public section

set_option maxRecDepth 16384

noncomputable section

namespace Cert.Proof.Whiles

open Cert.KernelIdeal Cert.KernelIdeal.Gen Cert.Proof.Geom Cert.Proof.Moves Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (X : main_v0.ty.Contents (Elt F))

/-- The landing slot of block `n`, -/
abbrev sl (n : ℕ) : Fin 3 := ⟨n % 3, Nat.mod_lt _ (by decide)⟩
/-- the leaving slot of block `n`, -/
abbrev ws (n : ℕ) : Fin 2 := ⟨n % 2, Nat.mod_lt _ (by decide)⟩
/-- and block `n`. -/
abbrev bk (n : ℕ) : Fin 32 := ⟨n % 32, Nat.mod_lt _ (by decide)⟩

/-- Landing slot `n % 3` once the read of block `n` was due: the block on its way, or the slot free past the last block. -/
def Due (n : ℕ) : sProp 𝕄 := if n < 32 then InR c X (sl n) (bk n) else FreeR c X (sl n)

theorem Due_lt {n : ℕ} (h : n < 32) : (Due c X n : sProp 𝕄) = InR c X (sl n) (bk n) := if_pos h
theorem Due_ge {n : ℕ} (h : ¬n < 32) : (Due c X n : sProp 𝕄) = FreeR c X (sl n) := if_neg h

/-- A label's call: its body, at a lower variant. -/
theorem wp_label {bd : Option 𝒱₀.V} {α : Type} {Q : α → sProp 𝕄} {ℓ : (Λ₀ F).Label} {a : (Λ₀ F).Args ℓ}
    {k : (Λ₀ F).Result ℓ → Prog (TpuEff nD τ sig (Elt F) (Λ₀ F) .tc) α} (v : ℕ) (hv : ∀ u ∈ bd, 𝒱₀.lt v u) :
    wp frame (wpE (defs₀ (F := F)) 𝒱₀ (c : Thread nD τ) (some v)) Set.univ (defs₀ (F := F) .tc ℓ a)
        (fun x => wp frame (wpE (defs₀ (F := F)) 𝒱₀ (c : Thread nD τ) bd) Set.univ (k x) Q)
      ⊢ wp frame (wpE (defs₀ (F := F)) 𝒱₀ (c : Thread nD τ) bd) Set.univ (.op (.call ℓ a) k) Q :=
  wp_call 𝒱₀ (c : Thread nD τ) bd Set.univ v hv

/-! ## The second `while` -/

/-- Its body when its test fails: it returns what it carries. -/
theorem while2_out (bd : Option 𝒱₀.V) (t : Fin k0_t1_loop.trips) (v98 a11 a12 a13 : BitVec 32)
    (P : BitVec 32 × BitVec 32 × BitVec 32 → sProp 𝕄) (hg : ¬guard2 v98 a12 a13 = 1#1) :
    P (a11, a12, a13) ⊢ wp frame (wpE (defs₀ (F := F)) 𝒱₀ (c : Thread nD τ) bd) Set.univ
      (defs₀ (F := F) .tc 2 ⟨t, v98, cc0_scoped1, rM, Memref.isWhole_whole _, xM, Memref.isWhole_whole _, a11, a12, a13⟩) P := by
  show _ ⊢ wp frame (wpE (defs₀ (F := F)) 𝒱₀ (c : Thread nD τ) bd) Set.univ
    (cc0_while2 t v98 cc0_scoped1 rM (Memref.isWhole_whole _) xM (Memref.isWhole_whole _) a11 a12 a13) P
  rw [cc0_while2_eq_skeleton]; unfold cc0_while2_skel
  simp only [hg, ↓reduceIte, Prog.pure_eq_ret]
  iintro H
  rw [wp_ret]; imodintro
  iexact H

/-- Its body in trip `k < 30`: it starts the read of block `k + 2` and returns the words of the next trip. -/
theorem while2_in (t : Fin k0_t1_loop.trips) (k : Fin 30) (P : BitVec 32 × BitVec 32 × BitVec 32 → sProp 𝕄) :
    FreeR c X (sl (k + 2)) ⊢ iprop((InR c X (sl (k + 2)) (bk (k + 2)) -∗ P (w (k + 2), w (k + 3), w (k + 3)))
      -∗ wp frame (wpE (defs₀ (F := F)) 𝒱₀ (c : Thread nD τ) (some 1)) Set.univ
        (defs₀ (F := F) .tc 2 ⟨t, w (k + 3), cc0_scoped1, rM, Memref.isWhole_whole _, xM, Memref.isWhole_whole _,
          w (k + 1), w (k + 2), w (k + 2)⟩) P) := by
  show _ ⊢ iprop(_ -∗ wp frame (wpE (defs₀ (F := F)) 𝒱₀ (c : Thread nD τ) (some 1)) Set.univ
    (cc0_while2 t (w (k + 3)) cc0_scoped1 rM (Memref.isWhole_whole _) xM (Memref.isWhole_whole _) (w (k + 1)) (w (k + 2)) (w (k + 2))) P)
  rw [cc0_while2_eq_skeleton]; unfold cc0_while2_skel
  have hg := guard2_in k
  have hb : (k : ℕ) + 2 < 32 := by have := k.isLt; omega
  simp only [hg, cond2_in k, next12_in k, next13_in k, ↓reduceIte, ↓reduceDIte, Prog.lift, Prog.bind_op, Prog.bind_ret, Prog.pure_eq_ret]
  iintro Hf Hk
  iapply (wp_assume 𝒱₀ (c : Thread nD τ) (some 1) Set.univ (chk4_in k))
  iapply (wp_assume 𝒱₀ (c : Thread nD τ) (some 1) Set.univ (chk3_in k))
  iapply (wp_startR c X (sl (k + 2)) (bk (k + 2)) (off7_in k) (off8_in k)
    (by rw [off9_in k]; show _ = ![1024 * (((k : ℕ) + 2) % 32), 0]; rw [Nat.mod_eq_of_lt hb])) $$ Hf
  iintro Hin
  iapply (wp_label c 0 (fun u hu => by cases hu; exact Nat.zero_lt_one))
  iapply (while2_out c (some 0) t (w (k + 3)) (w (k + 2)) (w (k + 3)) (w (k + 3)) _ (guard2_out k))
  rw [wp_ret]; imodintro
  iapply Hk
  iexact Hin

/-- The second `while` in trip `t`: given the slot of block `t + 2` free, that block is due, and the loop goes on with the
    words of the next trip. -/
theorem wp_while2 (t : Fin k0_t1_loop.trips) {α : Type} {Q : α → sProp 𝕄}
    {K : BitVec 32 × BitVec 32 × BitVec 32 → Prog (TpuEff nD τ sig (Elt F) (Λ₀ F) .tc) α} :
    FreeR c X (sl (t.val + 2)) ⊢ iprop((Due c X (t.val + 2) -∗ wp frame (wpE (defs₀ (F := F)) 𝒱₀ (c : Thread nD τ) none) Set.univ
          (K (w (min (t.val + 2) 31), w (min (t.val + 3) 32), w (min (t.val + 3) 32))) Q)
      -∗ wp frame (wpE (defs₀ (F := F)) 𝒱₀ (c : Thread nD τ) none) Set.univ
        (.op (.call (2 : (Λ₀ F).Label) ⟨t, w (t.val + 3), cc0_scoped1, rM, Memref.isWhole_whole _, xM, Memref.isWhole_whole _,
          w (min (t.val + 1) 31), w (min (t.val + 2) 32), w (min (t.val + 2) 32)⟩) K) Q) := by
  have ht : t.val < 32 := t.isLt
  iintro Hf Hk
  iapply (wp_label c (bd := none) 1 (fun u hu => nomatch hu))
  by_cases h : t.val < 30
  · have e1 : min (t.val + 1) 31 = t.val + 1 := by omega
    have e2 : min (t.val + 2) 32 = t.val + 2 := by omega
    have e3 : min (t.val + 2) 31 = t.val + 2 := by omega
    have e4 : min (t.val + 3) 32 = t.val + 3 := by omega
    have hd : t.val + 2 < 32 := by omega
    rw [e1, e2, e3, e4, Due_lt c X hd]
    iapply (while2_in c X t ⟨t.val, h⟩ _) $$ Hf
    iexact Hk
  · have e1 : min (t.val + 1) 31 = 31 := by omega
    have e2 : min (t.val + 2) 32 = 32 := by omega
    have e3 : min (t.val + 2) 31 = 31 := by omega
    have e4 : min (t.val + 3) 32 = 32 := by omega
    have hd : ¬t.val + 2 < 32 := by omega
    rw [e1, e2, e3, e4, Due_ge c X hd]
    iapply (while2_out c (some 1) t (w (t.val + 3)) 31#32 32#32 32#32 _ (guard2_end ⟨t.val, ht⟩ h))
    iapply Hk
    iexact Hf

/-! ## The first `while` -/

/-- Its body when its test fails: it returns what it carries. -/
theorem while1_out (bd : Option 𝒱₀.V) (P : BitVec 32 × BitVec 32 × BitVec 32 → sProp 𝕄) :
    P (1#32, 2#32, 2#32) ⊢ wp frame (wpE (defs₀ (F := F)) 𝒱₀ (c : Thread nD τ) bd) Set.univ
      (defs₀ (F := F) .tc 1 ⟨cc0_scoped1, rM, Memref.isWhole_whole _, xM, Memref.isWhole_whole _, 1#32, 2#32, 2#32⟩) P := by
  show _ ⊢ wp frame (wpE (defs₀ (F := F)) 𝒱₀ (c : Thread nD τ) bd) Set.univ
    (cc0_while1 cc0_scoped1 rM (Memref.isWhole_whole _) xM (Memref.isWhole_whole _) 1#32 2#32 2#32) P
  rw [cc0_while1_eq_skeleton]; unfold cc0_while1_skel
  have hg := guard1_out
  simp only [hg, ↓reduceIte, Prog.pure_eq_ret]
  iintro H
  rw [wp_ret]; imodintro
  iexact H

/-- Its body from the start: it starts the read of block 1 and returns the words the trips begin with. -/
theorem while1_in (P : BitVec 32 × BitVec 32 × BitVec 32 → sProp 𝕄) :
    FreeR c X 1 ⊢ iprop((InR c X 1 1 -∗ P (1#32, 2#32, 2#32))
      -∗ wp frame (wpE (defs₀ (F := F)) 𝒱₀ (c : Thread nD τ) (some 1)) Set.univ
        (defs₀ (F := F) .tc 1 ⟨cc0_scoped1, rM, Memref.isWhole_whole _, xM, Memref.isWhole_whole _, 0#32, 1#32, 1#32⟩) P) := by
  show _ ⊢ iprop(_ -∗ wp frame (wpE (defs₀ (F := F)) 𝒱₀ (c : Thread nD τ) (some 1)) Set.univ
    (cc0_while1 cc0_scoped1 rM (Memref.isWhole_whole _) xM (Memref.isWhole_whole _) 0#32 1#32 1#32) P)
  rw [cc0_while1_eq_skeleton]; unfold cc0_while1_skel
  have hg := guard1_in
  simp only [hg, cond1_one, next5_one, next6_one, ↓reduceIte, ↓reduceDIte, Prog.lift, Prog.bind_op, Prog.bind_ret, Prog.pure_eq_ret]
  iintro Hf Hk
  iapply (wp_assume 𝒱₀ (c : Thread nD τ) (some 1) Set.univ chk2_one)
  iapply (wp_assume 𝒱₀ (c : Thread nD τ) (some 1) Set.univ chk1_one)
  iapply (wp_startR c X 1 1 off4_one off5_one off6_one) $$ Hf
  iintro Hin
  iapply (wp_label c 0 (fun u hu => by cases hu; exact Nat.zero_lt_one))
  iapply (while1_out c (some 0) _)
  rw [wp_ret]; imodintro
  iapply Hk
  iexact Hin

/-- Before the trips: it starts the read of block 1, and the loop begins with block 1 issued and two reads counted. -/
theorem wp_while1 {α : Type} {Q : α → sProp 𝕄}
    {K : BitVec 32 × BitVec 32 × BitVec 32 → Prog (TpuEff nD τ sig (Elt F) (Λ₀ F) .tc) α} :
    FreeR c X 1 ⊢ iprop((InR c X 1 1 -∗ wp frame (wpE (defs₀ (F := F)) 𝒱₀ (c : Thread nD τ) none) Set.univ (K (1#32, 2#32, 2#32)) Q)
      -∗ wp frame (wpE (defs₀ (F := F)) 𝒱₀ (c : Thread nD τ) none) Set.univ
        (.op (.call (1 : (Λ₀ F).Label) ⟨cc0_scoped1, rM, Memref.isWhole_whole _, xM, Memref.isWhole_whole _, 0#32, 1#32, 1#32⟩) K) Q) := by
  iintro Hf Hk
  iapply (wp_label c (bd := none) 1 (fun u hu => nomatch hu))
  iapply (while1_in c X _) $$ Hf
  iexact Hk

end Cert.Proof.Whiles

end
-- ==== Proof.Slots.lean ====
/-
  The vector unit's accesses to the slots: loading a landing slot, loading and storing a leaving slot.
-/
module

public import proofs.«01_k».proof.Proof.Moves

@[expose] public section

set_option maxRecDepth 16384

noncomputable section

namespace Cert.Proof.Slots

open Cert.KernelIdeal Cert.KernelIdeal.Gen Cert.Proof.Geom Cert.Proof.Moves
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)

theorem rslot_within (s : Fin 3) : rM.view.setOn (rrect s).set ⊆ (rslot s).view.set := by
  rw [show (rslot s).view.set = (rM.view.slice (rrect s)).set from View.set_reshape _ _, View.set_slice]
  exact Finset.Subset.refl _
theorem wslot_within (s : Fin 2) : wM.view.setOn (wrect s).set ⊆ (wslot s).view.set := by
  rw [show (wslot s).view.set = (wM.view.slice (wrect s)).set from View.set_reshape _ _, View.set_slice]
  exact Finset.Subset.refl _
theorem wslot_access (s : Fin 2) : (wM.access (wrect s)).setOn Finset.univ ⊆ (wslot s).view.set := by
  rw [show (wslot s).view.set = (wM.view.slice (wrect s)).set from View.set_reshape _ _]
  exact Finset.Subset.refl _

/-- Loading landing slot `s`. -/
theorem wp_loadR {bd : Option 𝒱₀.V} {α : Type} {Q : α → sProp 𝕄} (s : Fin 3) (f : cc0_scoped0.ty.Contents (Elt F))
    {or : Fin 3 → ℕ} {hr h1} {k : Vec F S1x1024x4096 .f32 → Prog (TpuEff nD τ sig (Elt F) (Λ₀ F) .tc) α}
    (er : or = ![s.val, 0, 0]) :
    rAt c s f ⊢ iprop((rAt c s f -∗ wp frame (wpE (defs₀ (F := F)) 𝒱₀ (c : Thread nD τ) bd) Set.univ
          (k (rM.view.readAt (Elt F) (rrect s).toLoadRect f)) Q)
      -∗ wp frame (wpE (defs₀ (F := F)) 𝒱₀ (c : Thread nD τ) bd) Set.univ
          (.op (.load rM (Rect.unit (s := S3x1024x4096) or S1x1024x4096.size hr).toLoadRect h1) k) Q) := by
  subst er
  exact wp_load 𝒱₀ (c : Thread nD τ) bd Set.univ (m := rM) (r := (rrect s).toLoadRect) (rslot_within s)

/-- Loading leaving slot `s`. -/
theorem wp_loadW {bd : Option 𝒱₀.V} {α : Type} {Q : α → sProp 𝕄} (s : Fin 2) (f : cc0_scoped2.ty.Contents (Elt F))
    {ow : Fin 3 → ℕ} {hw h1} {k : Vec F S1x1024x64 .f32 → Prog (TpuEff nD τ sig (Elt F) (Λ₀ F) .tc) α}
    (ew : ow = ![s.val, 0, 0]) :
    wAt c s f ⊢ iprop((wAt c s f -∗ wp frame (wpE (defs₀ (F := F)) 𝒱₀ (c : Thread nD τ) bd) Set.univ
          (k (wM.view.readAt (Elt F) (wrect s).toLoadRect f)) Q)
      -∗ wp frame (wpE (defs₀ (F := F)) 𝒱₀ (c : Thread nD τ) bd) Set.univ
          (.op (.load wM (Rect.unit (s := S2x1024x64) ow S1x1024x64.size hw).toLoadRect h1) k) Q) := by
  subst ew
  exact wp_load 𝒱₀ (c : Thread nD τ) bd Set.univ (m := wM) (r := (wrect s).toLoadRect) (wslot_within s)

/-- Storing over leaving slot `s`: the slot then reads the value stored. -/
theorem wp_storeW {bd : Option 𝒱₀.V} {α : Type} {Q : α → sProp 𝕄} (s : Fin 2) (f : cc0_scoped2.ty.Contents (Elt F))
    (v : FVec F S1024x64 .f32) {p : FVec F S1x1024x64 .f32}
    {ow : Fin 3 → ℕ} {hw h1 h2} {k : PUnit → Prog (TpuEff nD τ sig (Elt F) (Λ₀ F) .tc) α}
    (ew : ow = ![s.val, 0, 0]) (ep : p = shapeCast S1x1024x64 v shapeCasts_S1024x64_S1x1024x64) :
    wAt c s f ⊢ iprop((iprop(∃ f' : cc0_scoped2.ty.Contents (Elt F), ⌜(wslot s).view.read (Elt F) f' = v⌝ ∗ wAt c s f')
          -∗ wp frame (wpE (defs₀ (F := F)) 𝒱₀ (c : Thread nD τ) bd) Set.univ (k ⟨⟩) Q)
      -∗ wp frame (wpE (defs₀ (F := F)) 𝒱₀ (c : Thread nD τ) bd) Set.univ
          (.op (.store wM (Rect.unit (s := S2x1024x64) ow S1x1024x64.size hw) p Finset.univ h1 h2) k) Q) := by
  subst ew ep
  have h : wAt c s f ⊢ iprop((wAt c s ((wM.access (wrect s)).write (Elt F) f (shapeCast S1x1024x64 v shapeCasts_S1024x64_S1x1024x64) Finset.univ)
          -∗ wp frame (wpE (defs₀ (F := F)) 𝒱₀ (c : Thread nD τ) bd) Set.univ (k ⟨⟩) Q)
        -∗ wp frame (wpE (defs₀ (F := F)) 𝒱₀ (c : Thread nD τ) bd) Set.univ
          (.op (.store wM (wrect s) (shapeCast S1x1024x64 v shapeCasts_S1024x64_S1x1024x64) Finset.univ h1 h2) k) Q) :=
    wp_store 𝒱₀ (c : Thread nD τ) bd Set.univ (m := wM) (r := wrect s) (Mk := Finset.univ) (wslot_access s)
  iintro Hw Hk
  iapply h $$ Hw
  iintro Hw
  iapply Hk
  iexists _
  isplitr [Hw]
  · ipureintro; exact store_wslot s f v
  · iexact Hw

end Cert.Proof.Slots

end
-- ==== Proof.Trip.lean ====
/-
  One trip of the kernel's loop: what holds before trip `k`, and that a trip takes it to `k + 1`.
-/
module

public import proofs.«01_k».proof.Proof.Whiles
public import proofs.«01_k».proof.Proof.Slots

@[expose] public section

set_option maxRecDepth 16384

noncomputable section

namespace Cert.Proof.Trip

open Cert.KernelIdeal Cert.KernelIdeal.Gen Cert.Proof.Geom Cert.Proof.Moves Cert.Proof.Words Cert.Proof.Whiles Cert.Proof.Slots
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (X : main_v0.ty.Contents (Elt F)) (V0 : main_v2.ty.Contents (Elt F))
  (wf : cc0_stg0_0.ty.Contents (Elt F)) (bf : cc0_stg1_0.ty.Contents (Elt F))

/-- The weight's staging buffer and the bias row's. -/
abbrev wgtM : Memref sig .tc .vmem S64x4096 .f32 := Memref.whole cc0_stg0_0
abbrev biaM : Memref sig .tc .vmem S1x64 .f32 := Memref.whole cc0_stg1_0

/-- The other leaving slot before trip `n`: free before the first, else on its way out with block `n - 1`. -/
def Prev (G : main_v2.ty.Contents (Elt F)) (n : ℕ) : sProp 𝕄 :=
  if n = 0 then FreeW c (ws (n + 1)) else InW c G (ws (n - 1)) (bk (n - 1))

theorem Prev_zero (G : main_v2.ty.Contents (Elt F)) {n : ℕ} (h : n = 0) : (Prev c G n : sProp 𝕄) = FreeW c (ws (n + 1)) := if_pos h
theorem Prev_pos (G : main_v2.ty.Contents (Elt F)) {n : ℕ} (h : ¬n = 0) : (Prev c G n : sProp 𝕄) = InW c G (ws (n - 1)) (bk (n - 1)) := if_neg h

/-- The rows of the result still to be written before trip `n`. -/
abbrev Todo (n : ℕ) : sProp 𝕄 := oM.view.loc (c : Thread nD τ) ↦[rowsGe (1024 * n)]{fullShare} V0
/-- The rows of the result that hold their values. -/
abbrev Done (G : main_v2.ty.Contents (Elt F)) (n : ℕ) : sProp 𝕄 := oM.view.loc (c : Thread nD τ) ↦[rowsLt (1024 * n)]{fullShare} G

/-- What holds before trip `n`, with the words `acc` carried into it. -/
def Inv (n : ℕ) (acc : BitVec 32 × BitVec 32 × BitVec 32 × BitVec 32 × BitVec 32 × BitVec 32) : sProp 𝕄 :=
  iprop(⌜acc = carried n⌝ ∗ Due c X n ∗ Due c X (n + 1) ∗ FreeR c X (sl (n + 2))
    ∗ FreeW c (ws n) ∗ Prev c (outAll X wf bf) n ∗ Done c (outAll X wf bf) (n - 1) ∗ Todo c V0 n
    ∗ (wgtM.view.loc (c : Thread nD τ) ↦{fullShare} wf) ∗ (biaM.view.loc (c : Thread nD τ) ↦{fullShare} bf)
    ∗ ∃ W : Waits sig Unit, owes (c : Thread nD τ) 0 W)

/-- The kernel's loop body on the buffers it is called with. -/
abbrev tripBody (v28 : BitVec 32) := k0_t1_body (F := F) xM (Memref.isWhole_whole _) wgtM (Memref.isWhole_whole _) biaM (Memref.isWhole_whole _)
  oM (Memref.isWhole_whole _) rM (Memref.isWhole_whole _) cc0_scoped1 wM (Memref.isWhole_whole _) cc0_scoped3 v28

theorem sl_three (n : ℕ) : sl (n + 1 + 2) = sl n := by apply Fin.ext; show (n + 1 + 2) % 3 = n % 3; omega
theorem ws_two {n : ℕ} (h : ¬n = 0) : ws (n - 1) = ws (n + 1) := by apply Fin.ext; show (n - 1) % 2 = (n + 1) % 2; omega

/-- Block `n` of the result is the first of the rows still to be written. -/
theorem todo_split {n : ℕ} (h : n < 32) : (Todo c V0 n : sProp 𝕄) ⊢
    iprop(((oblk (bk n)).view.loc (c : Thread nD τ) ↦[(oblk (bk n)).view.set]{fullShare} V0) ∗ Todo c V0 (n + 1)) := by
  have hb : (bk n).val = n := Nat.mod_eq_of_lt h
  have e := rowsGe_succ (bk n)
  have d := rowsGe_disj (bk n)
  rw [hb] at e d
  show (oM.view.loc (c : Thread nD τ) ↦[rowsGe (1024 * n)]{fullShare} V0 : sProp 𝕄) ⊢ _
  rw [e, oblk_set]
  exact (pointsTo_union (ℓ := oM.view.loc (c : Thread nD τ)) d).1

/-- And joins the rows written. -/
theorem done_join (G : main_v2.ty.Contents (Elt F)) {n : ℕ} (h : n < 32) :
    iprop(Done c G n ∗ ((oblk (bk n)).view.loc (c : Thread nD τ) ↦[(oblk (bk n)).view.set]{fullShare} G)) ⊢ (Done c G (n + 1) : sProp 𝕄) := by
  have hb : (bk n).val = n := Nat.mod_eq_of_lt h
  have e := rowsLt_succ (bk n)
  have d := rowsLt_disj (bk n)
  rw [hb] at e d
  show _ ⊢ (oM.view.loc (c : Thread nD τ) ↦[rowsLt (1024 * (n + 1))]{fullShare} G : sProp 𝕄)
  rw [e, oblk_set]
  exact (pointsTo_union (ℓ := oM.view.loc (c : Thread nD τ)) d).2

/-- The payload a trip stores, from what it loads: the value of its block. -/
theorem payload_eq (s : Fin 3) (b : Fin 32) (f : cc0_scoped0.ty.Contents (Elt F))
    (hf : (rslot s).view.read (Elt F) f = (xblk b).view.read (Elt F) X) :
    k0_pay1 (rM.view.readAt (Elt F) (rrect s).toLoadRect f)
        (wgtM.view.readAt (Elt F) (Rect.unit (s := S64x4096) ![0, 0] S64x4096.size inb_S64x4096_S64x4096_0_0).toLoadRect wf)
        (biaM.view.readAt (Elt F) (Rect.unit (s := S1x64) ![0, 0] S1x64.size inb_S1x64_S1x64_0_0).toLoadRect bf)
      = shapeCast S1x1024x64 (outB ((xblk b).view.read (Elt F) X) wf bf) shapeCasts_S1024x64_S1x1024x64 := by
  have h1 : wgtM.view.readAt (Elt F) (Rect.unit (s := S64x4096) ![0, 0] S64x4096.size inb_S64x4096_S64x4096_0_0).toLoadRect wf = wf :=
    Memref.readAt_unit_zero (Elt F) cc0_stg0_0 (funext fun a => by fin_cases a <;> rfl) _ wf
  have h2 : biaM.view.readAt (Elt F) (Rect.unit (s := S1x64) ![0, 0] S1x64.size inb_S1x64_S1x64_0_0).toLoadRect bf = bf :=
    Memref.readAt_unit_zero (Elt F) cc0_stg1_0 (funext fun a => by fin_cases a <;> rfl) _ bf
  rw [h1, h2, pay1_eq, load_rslot, hf]

/-- The pieces of the invariant after trip `n`. -/
theorem inv_succ (n : ℕ) :
    iprop(Due c X (n + 1) ∗ Due c X (n + 2) ∗ FreeR c X (sl n) ∗ FreeW c (ws (n + 1)) ∗ InW c (outAll X wf bf) (ws n) (bk n)
      ∗ Done c (outAll X wf bf) n ∗ Todo c V0 (n + 1)
      ∗ (wgtM.view.loc (c : Thread nD τ) ↦{fullShare} wf) ∗ (biaM.view.loc (c : Thread nD τ) ↦{fullShare} bf)
      ∗ ∃ W : Waits sig Unit, owes (c : Thread nD τ) 0 W) ⊢ Inv c X V0 wf bf (n + 1) (carried (n + 1)) := by
  have hP : (Prev c (outAll X wf bf) (n + 1) : sProp 𝕄) = InW c (outAll X wf bf) (ws n) (bk n) := Prev_pos c _ (Nat.succ_ne_zero _)
  unfold Inv
  rw [sl_three, hP, Nat.add_sub_cancel]
  iintro H
  isplitr [H]
  · ipureintro; rfl
  · iexact H

set_option maxHeartbeats 1000000 in
/-- A trip takes the invariant to the next. -/
theorem trip (v28 : BitVec 32) (k : Fin k0_t1_loop.trips) (acc : BitVec 32 × BitVec 32 × BitVec 32 × BitVec 32 × BitVec 32 × BitVec 32) :
    Inv c X V0 wf bf k.val acc ⊢ wp frame (wpE (defs₀ (F := F)) 𝒱₀ (c : Thread nD τ) none) Set.univ
      (tripBody v28 k acc) (Inv c X V0 wf bf (k.val + 1)) := by
  rw [show (Inv c X V0 wf bf k.val acc : sProp 𝕄) = _ from Inv.eq_1 c X V0 wf bf k.val acc]
  iintro ⟨%hacc, HD0, HD1, HF, HW, HP, Hdone, Htodo, Hw, Hb, ⟨%W, HO⟩⟩
  subst hacc
  unfold tripBody k0_t1_body
  simp only [k0_part1_eq_skeleton, k0_part2_eq_skeleton]
  unfold k0_part1_skel k0_part2_skel
  have hk : k.val < 32 := k.isLt
  have hk1 : k.val % 32 = k.val := Nat.mod_eq_of_lt hk
  have hnext := inv_succ c X V0 wf bf k.val
  have hend : carried (k.val + 1) = (w (min (k.val + 3) 32), w (k.val + 1), w (min (k.val + 2) 31), w (k.val + 1), w k.val, w ((k.val + 1) % 32)) := rfl
  rw [hend] at hnext
  simp only [cond3_at k, cond6_at k, v98_at k, arg12_at k, next6_at k, next8_at k, next9_at k, next10_at k, ↓reduceIte, ↓reduceDIte, ite_self,
    Prog.lift, Prog.bind_op, Prog.bind_ret, Prog.pure_eq_ret]
  iapply (wp_assume 𝒱₀ (c : Thread nD τ) none Set.univ (chk7_at k))
  iapply (wp_assume 𝒱₀ (c : Thread nD τ) none Set.univ (chk6_at k))
  iapply (wp_assume 𝒱₀ (c : Thread nD τ) none Set.univ (chk5_at k))
  -- the read of block `k + 2`, if there is one
  iapply (wp_while2 c X k) $$ HF
  iintro HD2
  -- block `k` has landed
  ihave HD0 := (Entails.of_eq (Due_lt c X hk)) $$ HD0
  iapply (wp_waitR c X (sl k.val) (bk k.val) W (off10_at k) (off11_at k) (by rw [off12_at k]; show _ = ![1024 * (k.val % 32), 0]; rw [hk1])) $$ [HD0 HO]
  · isplitl [HD0]; · iexact HD0
    iexact HO
  unfold Landed
  iintro ⟨⟨%f, Hr, %hf⟩, Hv, Hx, ⟨%W1, HO⟩⟩
  -- its value, stored over the leaving slot
  iapply (wp_loadR c (sl k.val) f (off13_at k)) $$ Hr; iintro Hr
  iapply (wp_load 𝒱₀ (c : Thread nD τ) none Set.univ (m := wgtM) (Finset.subset_univ _)) $$ Hw; iintro Hw
  iapply (wp_load 𝒱₀ (c : Thread nD τ) none Set.univ (m := biaM) (Finset.subset_univ _)) $$ Hb; iintro Hb
  unfold FreeW
  icases HW with ⟨⟨%g, Hwa⟩, Hwv⟩
  iapply (wp_loadW c (ws k.val) g (off14_at k)) $$ Hwa; iintro Hwa
  iapply (wp_storeW c (ws k.val) g (outB ((xblk (bk k.val)).view.read (Elt F) X) wf bf) (off14_at k)
    (payload_eq X wf bf (sl k.val) (bk k.val) f hf)) $$ Hwa
  iintro ⟨%g', %hg', Hwa⟩
  -- its copy out
  ihave Hsp := (todo_split c V0 hk) $$ Htodo
  icases Hsp with ⟨Hblk, Htodo⟩
  iapply (wp_startW c (outAll X wf bf) (ws k.val) (bk k.val) g' V0 (by rw [hg', read_outAll]) (off15_at k) (off17_at k)
    (by rw [off16_at k]; show _ = ![1024 * (k.val % 32), 0]; rw [hk1])) $$ [Hwa Hwv Hblk]
  · isplitl [Hwa]; · iexact Hwa
    isplitl [Hwv]; · iexact Hwv
    iexact Hblk
  iintro HIn
  by_cases h0 : k.val = 0
  · -- the first trip: nothing to wait for
    simp only [cond8_zero k h0, ↓reduceDIte]
    have hd : (Done c (outAll X wf bf) (k.val - 1) : sProp 𝕄) = Done c (outAll X wf bf) k.val := by rw [h0]
    ihave HP := (Entails.of_eq (Prev_zero c (outAll X wf bf) h0)) $$ HP
    rw [wp_ret]; imodintro
    iapply hnext
    isplitl [HD1]; · iexact HD1
    isplitl [HD2]; · iexact HD2
    isplitl [Hr Hv Hx]
    · unfold FreeR
      isplitl [Hr]
      · iexists f; iexact Hr
      isplitl [Hv]; · iexact Hv
      iexact Hx
    isplitl [HP]
    · iexact HP
    isplitl [HIn]; · iexact HIn
    isplitl [Hdone]
    · iapply (Entails.of_eq hd) $$ Hdone
    isplitl [Htodo]; · iexact Htodo
    isplitl [Hw]; · iexact Hw
    isplitl [Hb]; · iexact Hb
    iexists W1; iexact HO
  · -- a later trip: the block before has left
    simp only [cond8_pos k (Nat.pos_of_ne_zero h0), ↓reduceDIte]
    have hW : (FreeW c (ws (k.val - 1)) : sProp 𝕄) = FreeW c (ws (k.val + 1)) := by rw [ws_two h0]
    have hj := done_join c (outAll X wf bf) (n := k.val - 1) (by omega)
    rw [show k.val - 1 + 1 = k.val by omega] at hj
    ihave HP := (Entails.of_eq (Prev_pos c (outAll X wf bf) h0)) $$ HP
    iapply (wp_waitW c (outAll X wf bf) (ws (k.val - 1)) (bk (k.val - 1)) W1 (off18_at k) (off20_at k)
      (by rw [off19_at k (Nat.pos_of_ne_zero h0)]; show _ = ![1024 * ((k.val - 1) % 32), 0]; rw [Nat.mod_eq_of_lt (by omega : k.val - 1 < 32)])) $$ [HP HO]
    · isplitl [HP]; · iexact HP
      iexact HO
    iintro ⟨Hblk, HW, HO⟩
    rw [wp_ret]; imodintro
    iapply hnext
    isplitl [HD1]; · iexact HD1
    isplitl [HD2]; · iexact HD2
    isplitl [Hr Hv Hx]
    · unfold FreeR
      isplitl [Hr]
      · iexists f; iexact Hr
      isplitl [Hv]; · iexact Hv
      iexact Hx
    isplitl [HW]
    · iapply (Entails.of_eq hW) $$ HW
    isplitl [HIn]; · iexact HIn
    isplitl [Hdone Hblk]
    · iapply hj
      isplitl [Hdone]; · iexact Hdone
      iexact Hblk
    isplitl [Htodo]; · iexact Htodo
    isplitl [Hw]; · iexact Hw
    isplitl [Hb]; · iexact Hb
    iexact HO

end Cert.Proof.Trip

end
-- ==== Proof.Body.lean ====
/-
  The kernel's body: the two scratch buffers cut into their slots and joined back, and the whole run of the body, from the
  result at anything to the result at its values.
-/
module

public import proofs.«01_k».proof.Proof.Trip

@[expose] public section

set_option maxRecDepth 16384

noncomputable section

namespace Cert.Proof.Body

open Cert.KernelIdeal Cert.KernelIdeal.Gen Cert.Proof.Geom Cert.Proof.Moves Cert.Proof.Words Cert.Proof.Whiles Cert.Proof.Trip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The scratch buffers as their slots -/

/-- An element of the landing buffer lies in the slot of its first coordinate. -/
theorem mem_rrect (s : Fin 3) (i : S3x1024x4096.Idx) : i ∈ (rrect s).set ↔ (i 0).val = s.val := by
  rw [Rect.mem_set_unit]
  constructor
  · intro h
    have a0 : s.val ≤ (i 0).val ∧ (i 0).val < s.val + 1 := h 0
    omega
  · intro h a; fin_cases a
    · show s.val ≤ (i 0).val ∧ (i 0).val < s.val + 1; omega
    · exact ⟨Nat.zero_le _, by have h1 : (i 1).val < 1024 := (i 1).isLt; show (i 1).val < 0 + 1024; omega⟩
    · exact ⟨Nat.zero_le _, by have h1 : (i 2).val < 4096 := (i 2).isLt; show (i 2).val < 0 + 4096; omega⟩
theorem rrect_disj (s s' : Fin 3) (h : s ≠ s') : Disjoint (rrect s).set (rrect s').set := by
  rw [Finset.disjoint_left]; intro i h1 h2; rw [mem_rrect] at h1 h2; exact h (Fin.ext (h1.symm.trans h2))
theorem rrect_cover : (Finset.univ : Finset (Fin 3)).biUnion (fun s => (rrect s).set) = Finset.univ := by
  ext i; simp only [Finset.mem_biUnion, Finset.mem_univ, true_and, iff_true]; exact ⟨⟨(i 0).val, (i 0).isLt⟩, (mem_rrect _ i).2 rfl⟩

/-- An element of the leaving buffer lies in the slot of its first coordinate. -/
theorem mem_wrect (s : Fin 2) (i : S2x1024x64.Idx) : i ∈ (wrect s).set ↔ (i 0).val = s.val := by
  rw [Rect.mem_set_unit]
  constructor
  · intro h
    have a0 : s.val ≤ (i 0).val ∧ (i 0).val < s.val + 1 := h 0
    omega
  · intro h a; fin_cases a
    · show s.val ≤ (i 0).val ∧ (i 0).val < s.val + 1; omega
    · exact ⟨Nat.zero_le _, by have h1 : (i 1).val < 1024 := (i 1).isLt; show (i 1).val < 0 + 1024; omega⟩
    · exact ⟨Nat.zero_le _, by have h1 : (i 2).val < 64 := (i 2).isLt; show (i 2).val < 0 + 64; omega⟩
theorem wrect_disj (s s' : Fin 2) (h : s ≠ s') : Disjoint (wrect s).set (wrect s').set := by
  rw [Finset.disjoint_left]; intro i h1 h2; rw [mem_wrect] at h1 h2; exact h (Fin.ext (h1.symm.trans h2))
theorem wrect_cover : (Finset.univ : Finset (Fin 2)).biUnion (fun s => (wrect s).set) = Finset.univ := by
  ext i; simp only [Finset.mem_biUnion, Finset.mem_univ, true_and, iff_true]; exact ⟨⟨(i 0).val, (i 0).isLt⟩, (mem_wrect _ i).2 rfl⟩

theorem sep3 (P : Fin 3 → sProp 𝕄) : bigSep Finset.univ P = iprop(P 0 ∗ P 1 ∗ P 2) :=
  bigSep_univ_eq_bigSepL [(0 : Fin 3), (1 : Fin 3), (2 : Fin 3)] (by decide) (by decide) P
theorem sep2 (P : Fin 2 → sProp 𝕄) : bigSep Finset.univ P = iprop(P 0 ∗ P 1) :=
  bigSep_univ_eq_bigSepL [(0 : Fin 2), (1 : Fin 2)] (by decide) (by decide) P

variable (c : Dev nD) (X : main_v0.ty.Contents (Elt F)) (V0 : main_v2.ty.Contents (Elt F))
  (wf : cc0_stg0_0.ty.Contents (Elt F)) (bf : cc0_stg1_0.ty.Contents (Elt F))

/-- The landing buffer whole, at anything. -/
abbrev Rbuf : sProp 𝕄 := iprop(∃ f : Buf (Elt F) ((c : Thread nD τ).loc cc0_scoped0), ((c : Thread nD τ).loc cc0_scoped0) ↦{fullShare} f)
/-- The leaving buffer whole, at anything. -/
abbrev Wbuf : sProp 𝕄 := iprop(∃ f : Buf (Elt F) ((c : Thread nD τ).loc cc0_scoped2), ((c : Thread nD τ).loc cc0_scoped2) ↦{fullShare} f)

theorem rAt_eq (s : Fin 3) (f : cc0_scoped0.ty.Contents (Elt F)) :
    (rAt c s f : sProp 𝕄) = (((c : Thread nD τ).loc cc0_scoped0) ↦[(rrect s).set]{fullShare} f) :=
  congrArg (fun S => ((((c : Thread nD τ).loc cc0_scoped0)) ↦[S]{fullShare} f : sProp 𝕄)) (rslot_set s)
theorem wAt_eq (s : Fin 2) (f : cc0_scoped2.ty.Contents (Elt F)) :
    (wAt c s f : sProp 𝕄) = (((c : Thread nD τ).loc cc0_scoped2) ↦[(wrect s).set]{fullShare} f) :=
  congrArg (fun S => ((((c : Thread nD τ).loc cc0_scoped2)) ↦[S]{fullShare} f : sProp 𝕄)) (wslot_set s)

/-- The landing buffer is its three slots, -/
theorem r_split : (Rbuf c : sProp 𝕄) ⊢ iprop((∃ f, rAt c 0 f) ∗ (∃ f, rAt c 1 f) ∗ ∃ f, rAt c 2 f) := by
  iintro ⟨%f, H⟩
  ihave H := (Entails.of_eq ((Ring.pointsTo_blocks (Ix := Unit) (Name := ℕ) (U := UU nD τ) (Lvl := ℕ) (q := fullShare)
    (ℓ := (c : Thread nD τ).loc cc0_scoped0) (fun s => (rrect s).set) rrect_disj rrect_cover f).trans (sep3 _))) $$ H
  icases H with ⟨H0, H1, H2⟩
  isplitl [H0]
  · iexists f; iapply (Entails.of_eq (rAt_eq c 0 f).symm) $$ H0
  isplitl [H1]
  · iexists f; iapply (Entails.of_eq (rAt_eq c 1 f).symm) $$ H1
  · iexists f; iapply (Entails.of_eq (rAt_eq c 2 f).symm) $$ H2

/-- and back. -/
theorem r_join : iprop((∃ f, rAt c 0 f) ∗ (∃ f, rAt c 1 f) ∗ ∃ f, rAt c 2 f) ⊢ (Rbuf c : sProp 𝕄) := by
  iintro ⟨⟨%f, H0⟩, ⟨%f1, H1⟩, ⟨%f2, H2⟩⟩
  iapply (Ring.pointsTo_blocks_join_exists (ℓ := (c : Thread nD τ).loc cc0_scoped0) (fun s => (rrect s).set) rrect_disj rrect_cover f)
  iapply (Entails.of_eq (sep3 (F := F) _).symm)
  isplitl [H0]
  · iexists f; iapply (Entails.of_eq (rAt_eq c 0 f)) $$ H0
  isplitl [H1]
  · iexists f1; iapply (Entails.of_eq (rAt_eq c 1 f1)) $$ H1
  · iexists f2; iapply (Entails.of_eq (rAt_eq c 2 f2)) $$ H2

/-- The leaving buffer is its two slots, -/
theorem w_split : (Wbuf c : sProp 𝕄) ⊢ iprop((∃ f, wAt c 0 f) ∗ ∃ f, wAt c 1 f) := by
  iintro ⟨%f, H⟩
  ihave H := (Entails.of_eq ((Ring.pointsTo_blocks (Ix := Unit) (Name := ℕ) (U := UU nD τ) (Lvl := ℕ) (q := fullShare)
    (ℓ := (c : Thread nD τ).loc cc0_scoped2) (fun s => (wrect s).set) wrect_disj wrect_cover f).trans (sep2 _))) $$ H
  icases H with ⟨H0, H1⟩
  isplitl [H0]
  · iexists f; iapply (Entails.of_eq (wAt_eq c 0 f).symm) $$ H0
  · iexists f; iapply (Entails.of_eq (wAt_eq c 1 f).symm) $$ H1

/-- and back. -/
theorem w_join : iprop((∃ f, wAt c 0 f) ∗ ∃ f, wAt c 1 f) ⊢ (Wbuf c : sProp 𝕄) := by
  iintro ⟨⟨%f, H0⟩, ⟨%f1, H1⟩⟩
  iapply (Ring.pointsTo_blocks_join_exists (ℓ := (c : Thread nD τ).loc cc0_scoped2) (fun s => (wrect s).set) wrect_disj wrect_cover f)
  iapply (Entails.of_eq (sep2 (F := F) _).symm)
  isplitl [H0]
  · iexists f; iapply (Entails.of_eq (wAt_eq c 0 f)) $$ H0
  · iexists f1; iapply (Entails.of_eq (wAt_eq c 1 f1)) $$ H1

/-! ## What the body owns between its calls -/

/-- The kernel's five semaphores at zero. -/
abbrev Sems : sProp 𝕄 :=
  iprop(semVal ((c : Thread nD τ), SemLoc.dma (rsem 0)) 0 ∗ semVal ((c : Thread nD τ), SemLoc.dma (rsem 1)) 0
    ∗ semVal ((c : Thread nD τ), SemLoc.dma (rsem 2)) 0 ∗ semVal ((c : Thread nD τ), SemLoc.dma (wsem 0)) 0
    ∗ semVal ((c : Thread nD τ), SemLoc.dma (wsem 1)) 0)

/-- The input whole at `X`, both scratch buffers at anything, the five semaphores at zero. -/
def Idle : sProp 𝕄 :=
  iprop((((c : Thread nD τ).loc main_v0) ↦{fullShare} X) ∗ Rbuf c ∗ Wbuf c ∗ Sems c)

/-- Idle, every slot is free; -/
theorem idle_split : (Idle c X : sProp 𝕄) ⊢ iprop((FreeR c X 0 ∗ FreeR c X 1 ∗ FreeR c X 2) ∗ FreeW c 0 ∗ FreeW c 1) := by
  unfold Idle FreeR FreeW
  iintro ⟨HX, HR, HW, Hr0, Hr1, Hr2, Hw0, Hw1⟩
  ihave HX := (Ring.pointsTo_thirds (ℓ := (c : Thread nD τ).loc main_v0) fullShare X).1 $$ HX
  icases HX with ⟨HX0, HX1, HX2⟩
  ihave HR := (r_split c) $$ HR
  icases HR with ⟨HR0, HR1, HR2⟩
  ihave HW := (w_split c) $$ HW
  icases HW with ⟨HW0, HW1⟩
  isplitl [HX0 HX1 HX2 HR0 HR1 HR2 Hr0 Hr1 Hr2]
  · isplitl [HX0 HR0 Hr0]
    · isplitl [HR0]; · iexact HR0
      isplitl [Hr0]; · iexact Hr0
      iexact HX0
    isplitl [HX1 HR1 Hr1]
    · isplitl [HR1]; · iexact HR1
      isplitl [Hr1]; · iexact Hr1
      iexact HX1
    · isplitl [HR2]; · iexact HR2
      isplitl [Hr2]; · iexact Hr2
      iexact HX2
  isplitl [HW0 Hw0]
  · isplitl [HW0]; · iexact HW0
    iexact Hw0
  · isplitl [HW1]; · iexact HW1
    iexact Hw1

/-- and when every slot is free, it is idle. -/
theorem idle_join : iprop((FreeR c X 0 ∗ FreeR c X 1 ∗ FreeR c X 2) ∗ FreeW c 0 ∗ FreeW c 1) ⊢ (Idle c X : sProp 𝕄) := by
  unfold Idle FreeR FreeW
  iintro ⟨⟨⟨HR0, Hr0, HX0⟩, ⟨HR1, Hr1, HX1⟩, HR2, Hr2, HX2⟩, ⟨HW0, Hw0⟩, HW1, Hw1⟩
  isplitl [HX0 HX1 HX2]
  · iapply (Ring.pointsTo_thirds (ℓ := (c : Thread nD τ).loc main_v0) fullShare X).2
    isplitl [HX0]; · iexact HX0
    isplitl [HX1]; · iexact HX1
    iexact HX2
  isplitl [HR0 HR1 HR2]
  · iapply (r_join c)
    isplitl [HR0]; · iexact HR0
    isplitl [HR1]; · iexact HR1
    iexact HR2
  isplitl [HW0 HW1]
  · iapply (w_join c)
    isplitl [HW0]; · iexact HW0
    iexact HW1
  isplitl [Hr0]; · iexact Hr0
  isplitl [Hr1]; · iexact Hr1
  isplitl [Hr2]; · iexact Hr2
  isplitl [Hw0]; · iexact Hw0
  iexact Hw1

/-! ## The invariant at the loop's two ends -/

/-- Before the first trip: blocks 0 and 1 on their way, the rest free, no row of the result written. -/
theorem inv_start :
    iprop(InR c X 0 0 ∗ InR c X 1 1 ∗ FreeR c X 2 ∗ FreeW c 0 ∗ FreeW c 1 ∗ (((c : Thread nD τ).loc main_v2) ↦{fullShare} V0)
      ∗ (wgtM.view.loc (c : Thread nD τ) ↦{fullShare} wf) ∗ (biaM.view.loc (c : Thread nD τ) ↦{fullShare} bf)
      ∗ ∃ W : Waits sig Unit, owes (c : Thread nD τ) 0 W) ⊢ Inv c X V0 wf bf 0 (carried 0) := by
  have hT : (Todo c V0 0 : sProp 𝕄) = (((c : Thread nD τ).loc main_v2) ↦{fullShare} V0) :=
    congrArg (fun S => (((c : Thread nD τ).loc main_v2) ↦[S]{fullShare} V0 : sProp 𝕄)) rowsGe_zero
  have hD : (Done c (outAll X wf bf) (0 - 1) : sProp 𝕄) = iprop(emp) :=
    (congrArg (fun S => (((c : Thread nD τ).loc main_v2) ↦[S]{fullShare} (outAll X wf bf) : sProp 𝕄)) rowsLt_zero).trans pointsTo_empty
  have h0 : (Due c X 0 : sProp 𝕄) = InR c X 0 0 := Due_lt c X (by decide)
  have h1 : (Due c X (0 + 1) : sProp 𝕄) = InR c X 1 1 := Due_lt c X (by decide)
  have hP : (Prev c (outAll X wf bf) 0 : sProp 𝕄) = FreeW c 1 := Prev_zero c _ rfl
  unfold Trip.Inv
  rw [hT, hD, h0, h1, hP]
  iintro ⟨H0, H1, H2, HW0, HW1, HV, H⟩
  isplitr; · ipureintro; rfl
  isplitl [H0]; · iexact H0
  isplitl [H1]; · iexact H1
  isplitl [H2]; · iexact H2
  isplitl [HW0]; · iexact HW0
  isplitl [HW1]; · iexact HW1
  isplitr; · iempintro
  isplitl [HV]; · iexact HV
  iexact H

/-- After the last trip: the last block of the result on its way out, every other slot free, the other rows written. -/
theorem inv_end (acc : BitVec 32 × BitVec 32 × BitVec 32 × BitVec 32 × BitVec 32 × BitVec 32) :
    Inv c X V0 wf bf 32 acc ⊢ iprop(⌜acc = carried 32⌝ ∗ (FreeR c X 0 ∗ FreeR c X 1 ∗ FreeR c X 2) ∗ FreeW c 0
      ∗ InW c (outAll X wf bf) 1 31 ∗ Done c (outAll X wf bf) 31
      ∗ (wgtM.view.loc (c : Thread nD τ) ↦{fullShare} wf) ∗ (biaM.view.loc (c : Thread nD τ) ↦{fullShare} bf)
      ∗ ∃ W : Waits sig Unit, owes (c : Thread nD τ) 0 W) := by
  have h0 : (Due c X 32 : sProp 𝕄) = FreeR c X 2 := Due_ge c X (by decide)
  have h1 : (Due c X (32 + 1) : sProp 𝕄) = FreeR c X 0 := Due_ge c X (by decide)
  have hT : (Todo c V0 32 : sProp 𝕄) = iprop(emp) :=
    (congrArg (fun S => (((c : Thread nD τ).loc main_v2) ↦[S]{fullShare} V0 : sProp 𝕄)) rowsGe_all).trans pointsTo_empty
  have hP : (Prev c (outAll X wf bf) 32 : sProp 𝕄) = InW c (outAll X wf bf) 1 31 := Prev_pos c _ (by decide)
  unfold Trip.Inv
  rw [hT, h0, h1, hP]
  iintro ⟨%ha, H2, H0, H1, HW0, HW1, HD, -, H⟩
  isplitr; · ipureintro; exact ha
  isplitl [H0 H1 H2]
  · isplitl [H0]; · iexact H0
    isplitl [H1]; · iexact H1
    iexact H2
  isplitl [HW0]; · iexact HW0
  isplitl [HW1]; · iexact HW1
  isplitl [HD]; · iexact HD
  iexact H

/-! ## The body -/

/-- The kernel on the buffers it is called with. -/
abbrev bodyP : Prog (TpuEff nD τ sig (Elt F) (Λ₀ F) .tc) PUnit :=
  cc0__router_kernel (F := F) xM (Memref.isWhole_whole _) wgtM (Memref.isWhole_whole _) biaM (Memref.isWhole_whole _)
    oM (Memref.isWhole_whole _) rM (Memref.isWhole_whole _) cc0_scoped1 wM (Memref.isWhole_whole _) cc0_scoped3

/-- What the body is handed and hands back, with the result at `G`. -/
def Res (G : main_v2.ty.Contents (Elt F)) : sProp 𝕄 :=
  iprop(Idle c X ∗ (((c : Thread nD τ).loc main_v2) ↦{fullShare} G)
    ∗ (wgtM.view.loc (c : Thread nD τ) ↦{fullShare} wf) ∗ (biaM.view.loc (c : Thread nD τ) ↦{fullShare} bf)
    ∗ ∃ W : Waits sig Unit, owes (c : Thread nD τ) 0 W)

set_option maxHeartbeats 1000000 in
/-- The body fills the result with its values and leaves everything else as it was. -/
theorem body_run {Q : PUnit → sProp 𝕄} :
    iprop(Res c X wf bf V0 ∗ (Res c X wf bf (outAll X wf bf) -∗ Q ⟨⟩))
      ⊢ wp frame (wpE (defs₀ (F := F)) 𝒱₀ (c : Thread nD τ) none) Set.univ (bodyP (F := F)) Q := by
  have hdone : iprop(Done c (outAll X wf bf) 31 ∗ ((oblk 31).view.loc (c : Thread nD τ) ↦[(oblk 31).view.set]{fullShare} (outAll X wf bf)))
      ⊢ (((c : Thread nD τ).loc main_v2) ↦{fullShare} (outAll X wf bf) : sProp 𝕄) :=
    (done_join c (outAll X wf bf) (n := 31) (by decide)).trans
      (Entails.of_eq (congrArg (fun S => (((c : Thread nD τ).loc main_v2) ↦[S]{fullShare} (outAll X wf bf) : sProp 𝕄)) rowsLt_all))
  unfold Res bodyP
  rw [cc0__router_kernel_eq_skeleton]
  unfold cc0__router_kernel_skel
  rw [k0_part3_eq_skeleton, k0_part4_eq_skeleton]
  unfold k0_part3_skel k0_part4_skel
  iintro ⟨⟨HI, HV, Hw, Hb, HO⟩, HQ⟩
  ihave HI := (idle_split c X) $$ HI
  icases HI with ⟨⟨HR0, HR1, HR2⟩, HW0, HW1⟩
  simp only [Prog.lift, Prog.bind_op, Prog.bind_ret, Prog.pure_eq_ret, Prog.bind_assoc]
  iapply (wp_startR c X 0 0 off1_eq off2_eq off3_eq) $$ HR0
  iintro HR0
  iapply (wp_while1 c X) $$ HR1
  iintro HR1
  have hs := inv_start c X V0 wf bf
  ihave HInv := hs $$ [HR0 HR1 HR2 HW0 HW1 HV Hw Hb HO]
  · isplitl [HR0]; · iexact HR0
    isplitl [HR1]; · iexact HR1
    isplitl [HR2]; · iexact HR2
    isplitl [HW0]; · iexact HW0
    isplitl [HW1]; · iexact HW1
    isplitl [HV]; · iexact HV
    isplitl [Hw]; · iexact Hw
    isplitl [Hb]; · iexact Hb
    iexact HO
  iapply (Scf.wp_for_bind frame (wpE (defs₀ (F := F)) 𝒱₀ (c : Thread nD τ) none) Set.univ _ _ _ k0_t1_ok _ _
    (Inv c X V0 wf bf) (trip c X V0 wf bf _)) $$ HInv
  iintro %acc HInv
  have he : Inv c X V0 wf bf (Scf.trips k0_t1_loop.lb k0_t1_loop.ub k0_t1_loop.st) acc ⊢ _ := inv_end c X V0 wf bf acc
  ihave HInv := he $$ HInv
  icases HInv with ⟨%ha, HR, HW0, HIn, HD, Hw, Hb, ⟨%W, HO⟩⟩
  subst ha
  simp only [Prog.lift, Prog.bind_op, Prog.bind_ret, Prog.pure_eq_ret, Prog.bind_assoc]
  iapply (wp_assume 𝒱₀ (c : Thread nD τ) none Set.univ chk9_end)
  iapply (wp_assume 𝒱₀ (c : Thread nD τ) none Set.univ chk8_end)
  iapply (wp_waitW c (outAll X wf bf) 1 31 W off21_end off23_end off22_end) $$ [HIn HO]
  · isplitl [HIn]; · iexact HIn
    iexact HO
  iintro ⟨Hblk, HW1, HO⟩
  rw [wp_ret]; imodintro
  iapply HQ
  isplitl [HR HW0 HW1]
  · iapply (idle_join c X)
    isplitl [HR]; · iexact HR
    isplitl [HW0]; · iexact HW0
    iexact HW1
  isplitl [HD Hblk]
  · iapply hdone
    isplitl [HD]; · iexact HD
    iexact Hblk
  isplitl [Hw]; · iexact Hw
  isplitl [Hb]; · iexact Hb
  iexact HO

end Cert.Proof.Body

end
-- ==== Proof.Run.lean ====
/-
  The kernel's run: the two reshapes before the call, the call's two whole-array windows, the body, and what memory holds
  at the end. Stated for any interpretation of the floating-point values.
-/
module

public import proofs.«01_k».proof.Proof.Body
public import proofs.«01_k».proof.Proof.Gen.KernelIdeal.Points
public import Idealize.ShloMosaic.Lib.Pipeline.Frame
public import Idealize.ShloMosaic.Lib.Pipeline.ValueKit

@[expose] public section

set_option maxRecDepth 16384

noncomputable section

namespace Cert.Proof.Run

open Cert.KernelIdeal Cert.KernelIdeal.Gen Cert.Proof.Geom Cert.Proof.Moves Cert.Proof.Trip Cert.Proof.Body
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## Memory when the call is entered -/

/-- What a buffer holds after the two reshapes. -/
abbrev V (c : Dev nD) (b : Ref sig .tc) : Buf (Elt F) ((c : Thread nD τ).loc b) := StableHlo.after hostOps0 (fun b => m (c, b)) b

/-- The input's rows, -/
abbrev Xc (c : Dev nD) : main_v0.ty.Contents (Elt F) := V m c main_v0
/-- the weight, -/
abbrev Wc (c : Dev nD) : cc0_stg0_0.ty.Contents (Elt F) := V m c main_arg1
/-- and the bias row. -/
abbrev Bc (c : Dev nD) : cc0_stg1_0.ty.Contents (Elt F) := V m c main_v1

/-- The reshapes leave the arguments alone, -/
theorem V_arg0 (c : Dev nD) : V m c main_arg0 = m ((c : Thread nD τ).loc main_arg0) := by
  show StableHlo.after hostOps0 _ (Proc.devRef .tc main_arg0) = _
  after_results
theorem V_arg1 (c : Dev nD) : V m c main_arg1 = m ((c : Thread nD τ).loc main_arg1) := by
  show StableHlo.after hostOps0 _ (Proc.devRef .tc main_arg1) = _
  after_results
theorem V_arg2 (c : Dev nD) : V m c main_arg2 = m ((c : Thread nD τ).loc main_arg2) := by
  show StableHlo.after hostOps0 _ (Proc.devRef .tc main_arg2) = _
  after_results
/-- write the first argument's elements, row after row, into the input's rows, -/
theorem V_v0 (c : Dev nD) : Xc m c = shapeCast S32768x4096 (m ((c : Thread nD τ).loc main_arg0)) shapeCasts_S4x8192x4096_S32768x4096 := by
  show StableHlo.after hostOps0 _ (Proc.devRef .tc main_v0) = _
  after_results
  rfl
/-- and the third's into the bias row. -/
theorem V_v1 (c : Dev nD) : Bc m c = shapeCast S1x64 (m ((c : Thread nD τ).loc main_arg2)) shapeCasts_S64_S1x64 := by
  show StableHlo.after hostOps0 _ (Proc.devRef .tc main_v1) = _
  after_results
  rfl

/-- The result the run leaves on core `c`. -/
abbrev out (c : Dev nD) : main_v2.ty.Contents (Elt F) := outAll (Xc m c) (Wc m c) (Bc m c)

/-! ## The kernel's own semaphores -/

/-- The three landing slots' semaphores and the two leaving slots'. -/
def osem : Fin 5 → SemLoc sig
  | 0 => .dma (rsem 0) | 1 => .dma (rsem 1) | 2 => .dma (rsem 2) | 3 => .dma (wsem 0) | 4 => .dma (wsem 1)
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = Sems c := by
  unfold Pipeline.ownSems0
  exact bigSep_univ_eq_bigSepL [(0 : Fin 5), (1 : Fin 5), (2 : Fin 5), (3 : Fin 5), (4 : Fin 5)] (by decide) (by decide) _

/-! ## The call's data -/

/-- What the core owns beside the windows, with the result at `G`. -/
def Own (c : Dev nD) (G : main_v2.ty.Contents (Elt F)) : sProp 𝕄 :=
  iprop(Idle c (Xc m c) ∗ (((c : Thread nD τ).loc main_v2) ↦{fullShare} G))

/-- The block of window `w` at the one point: the window's array whole. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The first window's block is the weight, -/
theorem iblk_0 (c : Dev nD) (t : Fin (cfg0 (F := F)).N) : iblk m c 0 t = Wc m c := by
  blk_ext! [iblk] <;> exact (congrArg (· + _) (Nat.zero_mul _)).trans (Nat.zero_add _)
/-- and the second's the bias row. -/
theorem iblk_1 (c : Dev nD) (t : Fin (cfg0 (F := F)).N) : iblk m c 1 t = Bc m c := by
  blk_ext! [iblk]
  · rfl
  · exact (congrArg (· + _) (Nat.zero_mul _)).trans (Nat.zero_add _)

/-- The windows' arrays at what the call finds; both windows are inputs, left as fetched; the rest of what the core owns
    before the point and after it. -/
def dats (_ : Fin 1) (c : Dev nD) : Dat τ (Elt F) Unit ℕ (UU nD τ) ℕ (cfg0 (F := F)) c where
  A w := V m c (Pipeline.arrRef spec0 w)
  after w t := match w with
    | ⟨0, _⟩ => iblk m c 0 t
    | ⟨1, _⟩ => iblk m c 1 t
  Φ t := if t.val = 0 then Own m c (V m c main_v2) else Own m c (out m c)
  q _ := fullShare
  owed _ := 0

theorem before_w0 (c : Dev nD) (t : Fin (cfg0 (F := F)).N) (d) : (dats m 0 c).before 0 t d = iblk m c 0 t := by
  unfold Dat.before; rw [if_pos (fetch0_0 t)]; unfold Dat.fetched Dat.blockOf iblk; dsimp only [dats]; rfl
theorem before_w1 (c : Dev nD) (t : Fin (cfg0 (F := F)).N) (d) : (dats m 0 c).before 1 t d = iblk m c 1 t := by
  unfold Dat.before; rw [if_pos (fetch0_1 t)]; unfold Dat.fetched Dat.blockOf iblk; dsimp only [dats]; rfl
theorem after_w0 (c : Dev nD) (t : Fin (cfg0 (F := F)).N) : (dats m 0 c).after 0 t = iblk m c 0 t := rfl
theorem after_w1 (c : Dev nD) (t : Fin (cfg0 (F := F)).N) : (dats m 0 c).after 1 t = iblk m c 1 t := rfl
theorem Φ_first (c : Dev nD) : (dats m 0 c).Φ t0_0.castSucc = Own m c (V m c main_v2) := by
  show (if t0_0.castSucc.val = 0 then Own m c (V m c main_v2) else Own m c (out m c)) = _
  exact if_pos rfl
theorem Φ_last (c : Dev nD) : (dats m 0 c).Φ t0_0.succ = Own m c (out m c) := by
  show (if t0_0.succ.val = 0 then Own m c (V m c main_v2) else Own m c (out m c)) = _
  exact if_neg (Nat.succ_ne_zero _)

/-! ## The body at the one point -/

theorem defs_tc : (defs₀ (F := F)) .tc (cfg0 (F := F)).body
    = fun a => cc0__router_kernel xM (Memref.isWhole_whole _) (win0_0.stage (a.2 0)) (hstage0_0 0) (win0_1.stage (a.2 1)) (hstage0_1 0)
        oM (Memref.isWhole_whole _) rM (Memref.isWhole_whole _) cc0_scoped1 wM (Memref.isWhole_whole _) cc0_scoped3 := rfl
/-- The body the call runs is the kernel on the windows' staging buffers. -/
theorem prog_eq (t : Fin (cfg0 (F := F)).N) : (defs₀ (F := F)) .tc (cfg0 (F := F)).body ((cfg0 (F := F)).bodyArgs t ((cfg0 (F := F)).slots t)) = bodyP (F := F) :=
  (congrFun defs_tc _).trans (by rw [fin_N0 t])

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, after_w0, after_w1, iblk_0, iblk_1]
  rw [Φ_first, Φ_last, prog_eq]
  unfold Dat.owesAt Pipeline.owesWithin
  rw [show (dats m 0 c).owed t0_0.castSucc = 0 from rfl, show (dats m 0 c).owed t0_0.succ = 0 from rfl]
  simp only [owns_whole_eq]
  unfold Own
  iintro ⟨⟨HI, HV⟩, ⟨%W, -, HW⟩, ⟨%d0, %f0, %hf0, H0⟩, ⟨%d1, %f1, %hf1, H1⟩⟩
  subst hf0 hf1
  iapply (body_run c (Xc m c) (V m c main_v2) (Wc m c) (Bc m c))
  unfold Res
  isplitl [HI HV HW H0 H1]
  · isplitl [HI]; · iexact HI
    isplitl [HV]; · iexact HV
    isplitl [H0]; · iexact H0
    isplitl [H1]; · iexact H1
    iexists W; iexact HW
  · iintro ⟨HI, HV, H0, H1, ⟨%W', HW⟩⟩
    isplitl [HI HV]
    · isplitl [HI]; · iexact HI
      iexact HV
    isplitl [HW]
    · iexists W'; isplitr; · ipureintro; exact fun _ _ => Or.inl trivial
      iexact HW
    isplitl [H0]
    · iexists _; isplitr; · ipureintro; rfl
      iexact H0
    iexists _; isplitr; · ipureintro; rfl
    iexact H1

/-! ## The run -/

/-- The two reshaped arguments, which the call does not touch. -/
abbrev Args (c : Dev nD) : sProp 𝕄 :=
  iprop((((c : Thread nD τ).loc main_arg0) ↦{fullShare} V m c main_arg0) ∗ (((c : Thread nD τ).loc main_arg2) ↦{fullShare} V m c main_arg2))

/-- What the call starts from beside the scratch buffers. -/
def intoΦ (c : Dev nD) : sProp 𝕄 :=
  iprop((((c : Thread nD τ).loc main_v0) ↦{fullShare} Xc m c) ∗ (((c : Thread nD τ).loc main_v2) ↦{fullShare} V m c main_v2)
    ∗ Pipeline.ownSems0 osem c)
/-- The result, as the call leaves it. -/
def outOfΦ (c : Dev nD) : sProp 𝕄 := ((c : Thread nD τ).loc main_v2) ↦{fullShare} out m c

def u₀ : UU nD τ := (initOf (Pipeline.cells (cfgs (F := F)) cellOf_inj) (Pipeline.launchToks (cfgs (F := F)) cellOf_inj), 1)

/-- What memory holds at the end beside the windows' arrays. -/
def QY (c : Dev nD) (s : MemSt nD τ sig (Elt F)) : Prop :=
  s.mem ((c : Thread nD τ).loc main_v2) = out m c
    ∧ s.mem ((c : Thread nD τ).loc main_arg0) = V m c main_arg0 ∧ s.mem ((c : Thread nD τ).loc main_arg2) = V m c main_arg2

/-- What the run ends with on every core: the result at its values and the three arguments unchanged. -/
def QC : PUnit × MemSt nD τ sig (Elt F) → Prop := fun r => ∀ c : Dev nD,
  r.2.mem ((c : Thread nD τ).loc main_v2) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
/-- From any memory with every semaphore at zero the program ends, whatever the order of its steps; the result holds its
    values, the arguments are unchanged and every semaphore is at zero again. -/
theorem run_main : θ_run (defs (F := F)) (onTc (τ := τ) (main (F := F))) ⟨m, fun _ => 0, ρ⟩ (fun r => QC m r ∧ r.2.sem = fun _ => 0) :=
  Pipeline.θ_run_region_kit_quiescent (cfgs (F := F)) (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmainP_prefix pcfgs 0 defs₀ 𝒱₀ m main hostOps0 hostOps0_sub ⟨rfl, rfl⟩ main_chain)
    (hA := fun _ _ => rfl)
    (X := intoΦ m) (Y := outOfΦ m) (Z := Args m)
    (hX := fun c => by
      rw [unscopedRest0_eq]
      unfold intoΦ
      iintro ⟨⟨H0, H2, HX, HV⟩, HS, -, -, -⟩; imodintro
      isplitl [HX HV HS]
      · isplitl [HX]; · iexact HX
        isplitl [HV]; · iexact HV
        iexact HS
      isplitl [H0]; · iexact H0
      iexact H2)
    (hin := fun c => by
      rw [scopedRest0_eq, show (dats m 0 c).Φ 0 = Own m c (V m c main_v2) from Φ_first m c]
      unfold intoΦ Own Idle
      rw [ownSems0_eq]
      iintro ⟨⟨HX, HV, HS⟩, HR, HW⟩
      isplitr [HV]
      · isplitl [HX]; · iexact HX
        isplitl [HR]; · iexact HR
        isplitl [HW]; · iexact HW
        iexact HS
      iexact HV)
    (hout := fun c => by
      rw [scopedRest0_eq, show (dats m 0 c).Φ (Fin.last (cfg0 (F := F)).N) = Own m c (out m c) from Φ_last m c, ownSems0_eq]
      unfold outOfΦ Own Idle
      iintro ⟨⟨HX, HR, HW, HS⟩, HV⟩
      isplitl [HV]; · iexact HV
      isplitl [HS]; · iexact HS
      isplitl [HR]; · iexact HR
      iexact HW)
    (QY := QY m)
    (hY := fun c s' => by
      unfold outOfΦ
      iintro ⟨HV, ⟨H0, H2⟩, HSI⟩
      icombine HSI HV gives %hv
      icombine HSI H0 gives %h0
      icombine HSI H2 gives %h2
      imodintro
      isplitr
      · ipureintro
        exact ⟨Buf.eq_of_forall_mem_univ hv, Buf.eq_of_forall_mem_univ h0, Buf.eq_of_forall_mem_univ h2⟩
      iexact HSI)
    (hQ := fun s hh hz => ⟨fun c => ⟨(hh c).2.1, (hh c).2.2.1.trans (V_arg0 m c),
      ((hh c).1 0).trans (((dats m 0 c).arrAt_in 0 rfl _).trans (V_arg1 m c)), (hh c).2.2.2.trans (V_arg2 m c)⟩, hz⟩)

end Cert.Proof.Run

end
-- ==== Proof.Value.lean ====
/-
  The kernel's result at exact arithmetic: row by row and expert by expert it is the reference's product plus the bias.
-/
module

public import proofs.«01_k».proof.Proof.Run
public import proofs.«01_k».proof.Proof.Gen.ReferenceIdeal
public import Idealize.ShloMosaic.Lib.MatmulPlain
public import Idealize.ShloMosaic.Lib.Pipeline.ValueKit

@[expose] public section

set_option maxRecDepth 16384

noncomputable section

namespace Cert.Proof.Value

open Cert.KernelIdeal Cert.KernelIdeal.Gen Cert.Proof.Geom
open Idealize.ShloMosaic

/-- The reference's result over the three arguments. -/
def ref (A : FVec Ideal S4x8192x4096 .f32) (W : FVec Ideal S64x4096 .f32) (b : FVec Ideal S64 .f32) : FVec Ideal S32768x64 .f32 :=
  addf (Host.dotGeneral Cert.ReferenceIdeal.dot_S32768x4096_S4096x64_S32768x64_1_0_0_1_n_n none
      (shapeCast S32768x4096 A Cert.ReferenceIdeal.Gen.shapeCasts_S4x8192x4096_S32768x4096)
      (transpose Cert.ReferenceIdeal.S4096x64 [1, 0] W Cert.ReferenceIdeal.Gen.transposes_S64x4096_S4096x64_1_0))
    (broadcastInDim S32768x64 ![0, 1] Cert.ReferenceIdeal.Gen.bcast_S1x64_S32768x64_0_1
      (broadcastInDim S1x64 ![1] Cert.ReferenceIdeal.Gen.bcast_S64_S1x64_1 b))

/-- Element `j` of block `k` of the input is the input's element `1024 k` rows further down. -/
theorem read_xblk (k : Fin 32) (X : FVec Ideal S32768x4096 .f32) (r : Fin 1024) (h : Fin 4096) (R : Fin 32768) (hR : R.val = 1024 * k.val + r.val) :
    (xblk k).view.read (Elt Ideal) X (ix2 r h) = X (ix2 R h) := by
  show X ((xrect k).emb (ix2 r h)) = _
  refine congrArg X (funext fun a => Fin.ext ?_)
  have e := ValueKit.rect_emb_unit_val (s := S32768x4096) ![1024 * k.val, 0] S1024x4096.size (xinb k) (ix2 r h) a
  rw [e]
  fin_cases a
  · exact hR.symm
  · exact Nat.zero_add _

/-- The kernel's result is the reference's at every element: both are the sum over the contracted coordinate plus the bias. -/
theorem outAll_apply (A : FVec Ideal S4x8192x4096 .f32) (W : FVec Ideal S64x4096 .f32) (b : FVec Ideal S64 .f32) (i : S32768x64.Idx) :
    outAll (shapeCast S32768x4096 A shapeCasts_S4x8192x4096_S32768x4096) W (shapeCast S1x64 b shapeCasts_S64_S1x64) i = ref A W b i := by
  have hx : ∀ k : Fin 4096, (xblk (outer i)).view.read (Elt Ideal) (shapeCast S32768x4096 A shapeCasts_S4x8192x4096_S32768x4096) (ix2 (inner i 0) k)
      = shapeCast S32768x4096 A shapeCasts_S4x8192x4096_S32768x4096 (ix2 (i 0) k) :=
    fun k => read_xblk (outer i) _ (inner i 0) k (i 0) (Nat.div_add_mod (i 0).val 1024).symm
  have hc : inner i 1 = i 1 := rfl
  unfold outAll
  pointwise [outB, ref]
  refine congrArg₂ (· + ·) (Finset.sum_congr rfl fun k _ => congrArg₂ (· * ·) ((hx k).trans ?_) rfl) rfl
  pointwise

/-- So the results are equal. -/
theorem outAll_eq (A : FVec Ideal S4x8192x4096 .f32) (W : FVec Ideal S64x4096 .f32) (b : FVec Ideal S64 .f32) :
    outAll (shapeCast S32768x4096 A shapeCasts_S4x8192x4096_S32768x4096) W (shapeCast S1x64 b shapeCasts_S64_S1x64) = ref A W b :=
  funext (outAll_apply A W b)

end Cert.Proof.Value

end
-- ==== Proof.lean ====
/- The proof of the claims: the runs of the kernel and of the reference, and the equality of their results at exact
   arithmetic. -/
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Bits.Run
public import proofs.«01_k».proof.Proof.Value
public import Idealize.ShloMosaic.Lib.Claim

@[expose] public section

set_option maxRecDepth 16384

noncomputable section

namespace Cert.Proof

open Idealize.ShloMosaic Idealize.ShloMosaic.TcCoe Idealize.SL.Sem

/-- The kernel as compiled ends with its arguments unchanged and every semaphore at zero, -/
theorem frame_kernel : Cert.quiescent_Kernel := fun m ρ _ =>
  (θ_run Cert.Kernel.defs _ _).mono (fun _ h => ⟨fun c => (h.1 c).2, h.2⟩) (Bits.Run.run_main (F := Idealize.ShloMosaic.Bits) m ρ)
/-- so does it at exact arithmetic, -/
theorem frame_ideal : Cert.quiescent_KernelIdeal := fun m ρ _ =>
  (θ_run Cert.KernelIdeal.defs _ _).mono (fun _ h => ⟨fun c => (h.1 c).2, h.2⟩) (Run.run_main (F := Ideal) m ρ)

/-- and the reference too; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the kernel leaves in its result is the reference's term over the arguments. -/
theorem out_eq (m : (ℓ : Loc Cert.KernelIdeal.nD Cert.KernelIdeal.τ Cert.KernelIdeal.sig) → Buf (Elt Ideal) ℓ) (c : Dev Cert.KernelIdeal.nD) :
    Run.out m c = Value.ref (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  unfold Run.out
  rw [Run.V_v0, Run.V_v1]
  exact (congrArg (fun w => Geom.outAll _ w _) (Run.V_arg1 m c)).trans (Value.outAll_eq _ _ _)

/-- At exact arithmetic, on equal arguments, kernel and reference leave the same result. -/
theorem value : Cert.algebraic_KernelIdeal_ReferenceIdeal := fun m ρ m' ρ' _ hagree =>
  ⟨fun c => Run.out m c,
    (θ_run Cert.KernelIdeal.defs _ _).mono (fun _ h c => h.1 c) (Run.run_main (F := Ideal) m ρ),
    (θ_run Cert.ReferenceIdeal.defs _ _).mono (fun _ h c => ⟨(h c).1.trans (by
        rw [(hagree c).1, (hagree c).2.1, (hagree c).2.2]
        exact (out_eq m c).symm), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
